-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_finite [hPre_finite : Cert.Pre_finite.Facts] (m : (ℓ : Loc Cert.KernelIdeal.nD Cert.KernelIdeal.τ Cert.KernelIdeal.sig) → Buf (Elt Ideal) ℓ) : Prop :=
  ∀ c : Dev Cert.KernelIdeal.nD,
    (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.1 = (fun _ => 1#1)
    ∧ (Cert.Pre_finite.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6))).2.2.2 = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_finite [hPre_finite : Cert.Pre_finite.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.1 = (fun _ => 1#1)
    ∧ (Cert.Pre_finite.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6))).2.2.2 = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_KernelIdeal_pre_finite [hKernelIdeal : Cert.KernelIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_finite m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def quiescent_ReferenceIdeal_pre_finite [hReferenceIdeal : Cert.ReferenceIdeal.Facts] [hPre_finite : Cert.Pre_finite.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_finite m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6))
      ∧ r.2.sem = fun _ => 0)

def preserves_Kernel_KernelIdeal : Prop :=
  True

def algebraic_KernelIdeal_ReferenceIdeal_pre_finite [hKernelIdeal : Cert.KernelIdeal.Facts] [hReferenceIdeal : Cert.ReferenceIdeal.Facts] [hPre_finite : Cert.Pre_finite.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_finite m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)) →
    ∃ (v0 : (c : Dev Cert.KernelIdeal.nD) → Buf (Elt Ideal) ((c.tc : Thread Cert.KernelIdeal.nD Cert.KernelIdeal.τ).loc Cert.KernelIdeal.main_arg0)) (v1 : (c : Dev Cert.KernelIdeal.nD) → Buf (Elt Ideal) ((c.tc : Thread Cert.KernelIdeal.nD Cert.KernelIdeal.τ).loc Cert.KernelIdeal.main_v9)) (v2 : (c : Dev Cert.KernelIdeal.nD) → Buf (Elt Ideal) ((c.tc : Thread Cert.KernelIdeal.nD Cert.KernelIdeal.τ).loc Cert.KernelIdeal.main_arg2)) (v3 : (c : Dev Cert.KernelIdeal.nD) → Buf (Elt Ideal) ((c.tc : Thread Cert.KernelIdeal.nD Cert.KernelIdeal.τ).loc Cert.KernelIdeal.main_v10)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_arg0) = v0 c
          ∧ r.2.mem ((c.tc : Thread Cert.KernelIdeal.nD Cert.KernelIdeal.τ).loc Cert.KernelIdeal.main_v9) = v1 c
          ∧ r.2.mem ((c.tc : Thread Cert.KernelIdeal.nD Cert.KernelIdeal.τ).loc Cert.KernelIdeal.main_arg2) = v2 c
          ∧ r.2.mem ((c.tc : Thread Cert.KernelIdeal.nD Cert.KernelIdeal.τ).loc Cert.KernelIdeal.main_v10) = v3 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_arg0) = v0 c
          ∧ r.2.mem ((c.tc : Thread Cert.ReferenceIdeal.nD Cert.ReferenceIdeal.τ).loc Cert.ReferenceIdeal.main_v28) = v1 c
          ∧ r.2.mem ((c.tc : Thread Cert.ReferenceIdeal.nD Cert.ReferenceIdeal.τ).loc Cert.ReferenceIdeal.main_arg2) = v2 c
          ∧ r.2.mem ((c.tc : Thread Cert.ReferenceIdeal.nD Cert.ReferenceIdeal.τ).loc Cert.ReferenceIdeal.main_arg1) = v3 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6))

def Claim : Prop :=
  ∃ (hKernel : Cert.Kernel.Facts) (hKernelIdeal : Cert.KernelIdeal.Facts) (hReferenceIdeal : Cert.ReferenceIdeal.Facts) (hPre_finite : Cert.Pre_finite.Facts),
    quiescent_Kernel (hKernel := hKernel)
    ∧ quiescent_KernelIdeal (hKernelIdeal := hKernelIdeal)
    ∧ quiescent_KernelIdeal_pre_finite (hKernelIdeal := hKernelIdeal) (hPre_finite := hPre_finite)
    ∧ quiescent_ReferenceIdeal (hReferenceIdeal := hReferenceIdeal)
    ∧ quiescent_ReferenceIdeal_pre_finite (hReferenceIdeal := hReferenceIdeal) (hPre_finite := hPre_finite)
    ∧ preserves_Kernel_KernelIdeal
    ∧ algebraic_KernelIdeal_ReferenceIdeal_pre_finite (hKernelIdeal := hKernelIdeal) (hReferenceIdeal := hReferenceIdeal) (hPre_finite := hPre_finite)
-- ==== Pre_finite.lean ====
abbrev S1000000x3 : Shape := ⟨2, ![1000000, 3]⟩
abbrev S1000000x13 : Shape := ⟨2, ![1000000, 13]⟩
abbrev S4 : Shape := ⟨1, ![4]⟩
abbrev S16x16 : Shape := ⟨2, ![16, 16]⟩
abbrev S16 : Shape := ⟨1, ![16]⟩
abbrev S_ : Shape := ⟨0, ![]⟩

class Facts : Prop where
  bcast_S_S1000000x3 : S_.BroadcastsInDim S1000000x3 (![] : Fin 0 → Fin S1000000x3.rank)
  bcast_S_S1000000x13 : S_.BroadcastsInDim S1000000x13 (![] : Fin 0 → Fin S1000000x13.rank)
  bcast_S_S16x16 : S_.BroadcastsInDim S16x16 (![] : Fin 0 → Fin S16x16.rank)
  bcast_S_S16 : S_.BroadcastsInDim S16 (![] : Fin 0 → Fin S16.rank)

variable [Facts]

def fn {F : FTy → Type} [FloatOps F] (main_arg0 : FVec F S1000000x3 .f32) (main_arg1 : FVec F S1000000x13 .f32) (main_arg2 : IVec S4 32) (main_arg3 : FVec F S1000000x3 .f32) (main_arg4 : FVec F S16x16 .f32) (main_arg5 : FVec F S16 .f32) (main_arg6 : FVec F S16 .f32) : IVec S1000000x3 1 × IVec S1000000x13 1 × IVec S16x16 1 × IVec S16 1 :=
  let main_v0 : FVec F S1000000x3 .f32 := Host.absf main_arg0
  let main_cst : FVec F S_ .f32 := constant S_ .f32 0x7F800000#32
  let main_v1 : FVec F S1000000x3 .f32 := broadcastInDim S1000000x3 ![] bcast_S_S1000000x3 main_cst
  let main_v2 : IVec S1000000x3 1 := cmpf .olt main_v0 main_v1
  let main_v3 : FVec F S1000000x13 .f32 := Host.absf main_arg1
  let main_cst_0 : FVec F S_ .f32 := constant S_ .f32 0x7F800000#32
  let main_v4 : FVec F S1000000x13 .f32 := broadcastInDim S1000000x13 ![] bcast_S_S1000000x13 main_cst_0
  let main_v5 : IVec S1000000x13 1 := cmpf .olt main_v3 main_v4
  let main_v6 : FVec F S16x16 .f32 := Host.absf main_arg4
  let main_cst_1 : FVec F S_ .f32 := constant S_ .f32 0x7F800000#32
  let main_v7 : FVec F S16x16 .f32 := broadcastInDim S16x16 ![] bcast_S_S16x16 main_cst_1
  let main_v8 : IVec S16x16 1 := cmpf .olt main_v6 main_v7
  let main_v9 : FVec F S16 .f32 := Host.absf main_arg5
  let main_cst_2 : FVec F S_ .f32 := constant S_ .f32 0x7F800000#32
  let main_v10 : FVec F S16 .f32 := broadcastInDim S16 ![] bcast_S_S16 main_cst_2
  let main_v11 : IVec S16 1 := cmpf .olt main_v9 main_v10
  (main_v2, main_v5, main_v8, main_v11)
-- ==== Kernel.lean ====
abbrev S1000000x3 : Shape := ⟨2, ![1000000, 3]⟩
abbrev S1000000x13 : Shape := ⟨2, ![1000000, 13]⟩
abbrev S4 : Shape := ⟨1, ![4]⟩
abbrev S16x16 : Shape := ⟨2, ![16, 16]⟩
abbrev S16 : Shape := ⟨1, ![16]⟩
abbrev S3x1000000 : Shape := ⟨2, ![3, 1000000]⟩
abbrev S13x1000000 : Shape := ⟨2, ![13, 1000000]⟩
abbrev S16x3 : Shape := ⟨2, ![16, 3]⟩
abbrev S16x13 : Shape := ⟨2, ![16, 13]⟩
abbrev S16x1 : Shape := ⟨2, ![16, 1]⟩
abbrev S_ : Shape := ⟨0, ![]⟩
abbrev S1 : Shape := ⟨1, ![1]⟩
abbrev S3x8192 : Shape := ⟨2, ![3, 8192]⟩
abbrev S13x8192 : Shape := ⟨2, ![13, 8192]⟩
abbrev S16x8192 : Shape := ⟨2, ![16, 8192]⟩
abbrev S16x1000000 : Shape := ⟨2, ![16, 1000000]⟩
abbrev S1000000x16 : Shape := ⟨2, ![1000000, 16]⟩

abbrev nBuf : Space → Nat
  | .hbm => 22
  | .vmem => 24
  | .smem => 1
  | _ => 0

abbrev bufTy : (tb : Table) → Fin (tcTables nBuf tb) → BufTy
  | .hbm, ⟨0, _⟩ => ⟨S1000000x3, .f32⟩
  | .hbm, ⟨1, _⟩ => ⟨S1000000x13, .f32⟩
  | .hbm, ⟨2, _⟩ => ⟨S4, .i32⟩
  | .hbm, ⟨3, _⟩ => ⟨S1000000x3, .f32⟩
  | .hbm, ⟨4, _⟩ => ⟨S16x16, .f32⟩
  | .hbm, ⟨5, _⟩ => ⟨S16, .f32⟩
  | .hbm, ⟨6, _⟩ => ⟨S16, .f32⟩
  | .hbm, ⟨7, _⟩ => ⟨S3x1000000, .f32⟩
  | .hbm, ⟨8, _⟩ => ⟨S13x1000000, .f32⟩
  | .hbm, ⟨9, _⟩ => ⟨S16x3, .f32⟩
  | .hbm, ⟨10, _⟩ => ⟨S16x13, .f32⟩
  | .hbm, ⟨11, _⟩ => ⟨S16x1, .f32⟩
  | .hbm, ⟨12, _⟩ => ⟨S16x1, .f32⟩
  | .hbm, ⟨13, _⟩ => ⟨S_, .i32⟩
  | .hbm, ⟨14, _⟩ => ⟨S1, .i32⟩
  | .hbm, ⟨15, _⟩ => ⟨S16x3, .f32⟩
  | .hbm, ⟨16, _⟩ => ⟨S16x13, .f32⟩
  | .hbm, ⟨17, _⟩ => ⟨S16x1, .f32⟩
  | .hbm, ⟨18, _⟩ => ⟨S16x1000000, .f32⟩
  | .hbm, ⟨19, _⟩ => ⟨S13x1000000, .f32⟩
  | .hbm, ⟨20, _⟩ => ⟨S1000000x16, .f32⟩
  | .hbm, ⟨21, _⟩ => ⟨S1000000x13, .f32⟩
  | .local _ .vmem, ⟨0, _⟩ => ⟨S3x8192, .f32⟩
  | .local _ .vmem, ⟨1, _⟩ => ⟨S3x8192, .f32⟩
  | .local _ .vmem, ⟨2, _⟩ => ⟨S13x8192, .f32⟩
  | .local _ .vmem, ⟨3, _⟩ => ⟨S13x8192, .f32⟩
  | .local _ .vmem, ⟨4, _⟩ => ⟨S16x3, .f32⟩
  | .local _ .vmem, ⟨5, _⟩ => ⟨S16x13, .f32⟩
  | .local _ .vmem, ⟨6, _⟩ => ⟨S16x1, .f32⟩
  | .local _ .vmem, ⟨7, _⟩ => ⟨S16x1, .f32⟩
  | .local _ .vmem, ⟨8, _⟩ => ⟨S16x3, .f32⟩
  | .local _ .vmem, ⟨9, _⟩ => ⟨S16x13, .f32⟩
  | .local _ .vmem, ⟨10, _⟩ => ⟨S16x1, .f32⟩
  | .local _ .vmem, ⟨11, _⟩ => ⟨S16x1, .f32⟩
  | .local _ .vmem, ⟨12, _⟩ => ⟨S16x1, .f32⟩
  | .local _ .vmem, ⟨13, _⟩ => ⟨S3x8192, .f32⟩
  | .local _ .vmem, ⟨14, _⟩ => ⟨S3x8192, .f32⟩
  | .local _ .vmem, ⟨15, _⟩ => ⟨S13x8192, .f32⟩
  | .local _ .vmem, ⟨16, _⟩ => ⟨S13x8192, .f32⟩
  | .local _ .vmem, ⟨17, _⟩ => ⟨S16x3, .f32⟩
  | .local _ .vmem, ⟨18, _⟩ => ⟨S16x13, .f32⟩
  | .local _ .vmem, ⟨19, _⟩ => ⟨S16x1, .f32⟩
  | .local _ .vmem, ⟨20, _⟩ => ⟨S16x8192, .f32⟩
  | .local _ .vmem, ⟨21, _⟩ => ⟨S16x8192, .f32⟩
  | .local _ .vmem, ⟨22, _⟩ => ⟨S13x8192, .f32⟩
  | .local _ .vmem, ⟨23, _⟩ => ⟨S13x8192, .f32⟩
  | .local _ .smem, ⟨0, _⟩ => ⟨S1, .i32⟩
  | _, _ => ⟨S1000000x3, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .smem, ⟨0, _⟩ => true
  | _, _ => false

abbrev semScoped : Fin 0 → Bool
  | ⟨_, h⟩ => absurd h (Nat.not_lt_zero _)

abbrev dmaSemScoped : Fin 23 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | _ => false

abbrev sig : RefSig :=
  ofTc nBuf bufTy 0 23 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_c : Ref sig .tc := ⟨.hbm, 13, rfl⟩
abbrev main_v6 : Ref sig .tc := ⟨.hbm, 14, rfl⟩
abbrev main_v7_0 : Ref sig .tc := ⟨.hbm, 15, rfl⟩
abbrev main_v7_1 : Ref sig .tc := ⟨.hbm, 16, rfl⟩
abbrev main_v7_2 : Ref sig .tc := ⟨.hbm, 17, rfl⟩
abbrev main_v8_0 : Ref sig .tc := ⟨.hbm, 18, rfl⟩
abbrev main_v8_1 : Ref sig .tc := ⟨.hbm, 19, rfl⟩
abbrev main_v9 : Ref sig .tc := ⟨.hbm, 20, rfl⟩
abbrev main_v10 : Ref sig .tc := ⟨.hbm, 21, rfl⟩
abbrev cc0_stg1_0 : Ref sig .tc := ⟨.vmem, 0, rfl⟩
abbrev cc0_stg1_1 : Ref sig .tc := ⟨.vmem, 1, rfl⟩
abbrev cc0_stg2_0 : Ref sig .tc := ⟨.vmem, 2, rfl⟩
abbrev cc0_stg2_1 : Ref sig .tc := ⟨.vmem, 3, rfl⟩
abbrev cc0_stg3_0 : Ref sig .tc := ⟨.vmem, 4, rfl⟩
abbrev cc0_stg4_0 : Ref sig .tc := ⟨.vmem, 5, rfl⟩
abbrev cc0_stg5_0 : Ref sig .tc := ⟨.vmem, 6, rfl⟩
abbrev cc0_stg6_0 : Ref sig .tc := ⟨.vmem, 7, rfl⟩
abbrev cc0_stg7_0 : Ref sig .tc := ⟨.vmem, 8, rfl⟩
abbrev cc0_stg8_0 : Ref sig .tc := ⟨.vmem, 9, rfl⟩
abbrev cc0_stg9_0 : Ref sig .tc := ⟨.vmem, 10, rfl⟩
abbrev cc0_scratch0 : Ref sig .tc := ⟨.vmem, 11, rfl⟩
abbrev cc0_scratch1 : Ref sig .tc := ⟨.vmem, 12, rfl⟩
abbrev cc1_stg0_0 : Ref sig .tc := ⟨.vmem, 13, rfl⟩
abbrev cc1_stg0_1 : Ref sig .tc := ⟨.vmem, 14, rfl⟩
abbrev cc1_stg1_0 : Ref sig .tc := ⟨.vmem, 15, rfl⟩
abbrev cc1_stg1_1 : Ref sig .tc := ⟨.vmem, 16, rfl⟩
abbrev cc1_stg2_0 : Ref sig .tc := ⟨.vmem, 17, rfl⟩
abbrev cc1_stg3_0 : Ref sig .tc := ⟨.vmem, 18, rfl⟩
abbrev cc1_stg4_0 : Ref sig .tc := ⟨.vmem, 19, rfl⟩
abbrev cc1_stg5_0 : Ref sig .tc := ⟨.vmem, 20, rfl⟩
abbrev cc1_stg5_1 : Ref sig .tc := ⟨.vmem, 21, rfl⟩
abbrev cc1_stg6_0 : Ref sig .tc := ⟨.vmem, 22, rfl⟩
abbrev cc1_stg6_1 : Ref sig .tc := ⟨.vmem, 23, rfl⟩
abbrev cc0_stg0_0 : Ref sig .tc := ⟨.smem, 0, rfl⟩
abbrev cc0_sem0_0 : DmaSem sig := 0
abbrev cc0_sem1_0 : DmaSem sig := 1
abbrev cc0_sem1_1 : DmaSem sig := 2
abbrev cc0_sem2_0 : DmaSem sig := 3
abbrev cc0_sem2_1 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem8_0 : DmaSem sig := 10
abbrev cc0_sem9_0 : DmaSem sig := 11
abbrev cc1_sem0_0 : DmaSem sig := 12
abbrev cc1_sem0_1 : DmaSem sig := 13
abbrev cc1_sem1_0 : DmaSem sig := 14
abbrev cc1_sem1_1 : DmaSem sig := 15
abbrev cc1_sem2_0 : DmaSem sig := 16
abbrev cc1_sem3_0 : DmaSem sig := 17
abbrev cc1_sem4_0 : DmaSem sig := 18
abbrev cc1_sem5_0 : DmaSem sig := 19
abbrev cc1_sem5_1 : DmaSem sig := 20
abbrev cc1_sem6_0 : DmaSem sig := 21
abbrev cc1_sem6_1 : DmaSem sig := 22

abbrev nD : Nat := 1
abbrev τ : Topo := Topo.v7x

variable {F : FTy → Type} [FloatOps F]

abbrev grid0 : Pipeline.Grid := ⟨1, ![123], ![false]⟩

def k0_cond4 (i : grid0.Coords) : BitVec 1 :=
  let arg0 : BitVec 32 := BitVec.ofNat 32 (i 0).val
  let c122_i32_9 : BitVec 32 := 122#32
  let v15 : BitVec 1 := Scalar.cmpi .eq arg0 c122_i32_9
  let v16 : BitVec 32 := Scalar.extui v15
  let c0_i32_10 : BitVec 32 := 0#32
  let v17 : BitVec 1 := Scalar.cmpi .ne v16 c0_i32_10
  v17

def cc0_transform_0 (i : grid0.Coords) : Fin 1 → Nat :=
  let arg0 : BitVec 32 := BitVec.ofNat 32 (i 0).val
  let c0_i32 : BitVec 32 := 0#32
  let c0_i32_0 : BitVec 32 := 0#32
  ![c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![c0_i32.toNat, arg0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_8 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_9 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage0_0 : Fin 1 → Memref sig .tc .smem S1 .i32 := fun | 0 => Memref.whole cc0_stg0_0 | ⟨_ + 1, h⟩ => absurd h (Nat.not_lt.2 (Nat.le_add_left _ _))
abbrev sem0_0 : Fin 1 → DmaSem sig := fun | 0 => cc0_sem0_0 | ⟨_ + 1, h⟩ => absurd h (Nat.not_lt.2 (Nat.le_add_left _ _))
abbrev reads0_0 : Fin grid0.rank → Bool := ![false]

abbrev stage0_1 : Fin 2 → Memref sig .tc .vmem S3x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S13x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S16x3 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S16x13 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S16x1 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S16x1 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 1 → Memref sig .tc .vmem S16x3 .f32 := fun | 0 => Memref.whole cc0_stg7_0 | ⟨_ + 1, h⟩ => absurd h (Nat.not_lt.2 (Nat.le_add_left _ _))
abbrev sem0_7 : Fin 1 → DmaSem sig := fun | 0 => cc0_sem7_0 | ⟨_ + 1, h⟩ => absurd h (Nat.not_lt.2 (Nat.le_add_left _ _))
abbrev reads0_7 : Fin grid0.rank → Bool := ![false]

abbrev stage0_8 : Fin 1 → Memref sig .tc .vmem S16x13 .f32 := fun | 0 => Memref.whole cc0_stg8_0 | ⟨_ + 1, h⟩ => absurd h (Nat.not_lt.2 (Nat.le_add_left _ _))
abbrev sem0_8 : Fin 1 → DmaSem sig := fun | 0 => cc0_sem8_0 | ⟨_ + 1, h⟩ => absurd h (Nat.not_lt.2 (Nat.le_add_left _ _))
abbrev reads0_8 : Fin grid0.rank → Bool := ![false]

abbrev stage0_9 : Fin 1 → Memref sig .tc .vmem S16x1 .f32 := fun | 0 => Memref.whole cc0_stg9_0 | ⟨_ + 1, h⟩ => absurd h (Nat.not_lt.2 (Nat.le_add_left _ _))
abbrev sem0_9 : Fin 1 → DmaSem sig := fun | 0 => cc0_sem9_0 | ⟨_ + 1, h⟩ => absurd h (Nat.not_lt.2 (Nat.le_add_left _ _))
abbrev reads0_9 : Fin grid0.rank → Bool := ![false]

abbrev grid1 : Pipeline.Grid := ⟨1, ![123], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_1 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

def cc1_transform_6 (i : grid1.Coords) : Fin 2 → Nat :=
  let arg0 : BitVec 32 := BitVec.ofNat 32 (i 0).val
  let c0_i32 : BitVec 32 := 0#32
  let c0_i32_0 : BitVec 32 := 0#32
  ![c0_i32.toNat, arg0.toNat]

abbrev stage1_0 : Fin 2 → Memref sig .tc .vmem S3x8192 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S13x8192 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S16x3 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S16x13 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S16x1 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 2 → Memref sig .tc .vmem S16x8192 .f32 := fun | 0 => Memref.whole cc1_stg5_0 | 1 => Memref.whole cc1_stg5_1 | ⟨_ + 2, h⟩ => absurd h (Nat.not_lt.2 (Nat.le_add_left _ _))
abbrev sem1_5 : Fin 2 → DmaSem sig := fun | 0 => cc1_sem5_0 | 1 => cc1_sem5_1 | ⟨_ + 2, h⟩ => absurd h (Nat.not_lt.2 (Nat.le_add_left _ _))
abbrev reads1_5 : Fin grid1.rank → Bool := ![true]

abbrev stage1_6 : Fin 2 → Memref sig .tc .vmem S13x8192 .f32 := fun | 0 => Memref.whole cc1_stg6_0 | 1 => Memref.whole cc1_stg6_1 | ⟨_ + 2, h⟩ => absurd h (Nat.not_lt.2 (Nat.le_add_left _ _))
abbrev sem1_6 : Fin 2 → DmaSem sig := fun | 0 => cc1_sem6_0 | 1 => cc1_sem6_1 | ⟨_ + 2, h⟩ => absurd h (Nat.not_lt.2 (Nat.le_add_left _ _))
abbrev reads1_6 : Fin grid1.rank → Bool := ![true]
-- ==== ReferenceIdeal.lean ====
abbrev S1000000x3 : Shape := ⟨2, ![1000000, 3]⟩
abbrev S1000000x13 : Shape := ⟨2, ![1000000, 13]⟩
abbrev S4 : Shape := ⟨1, ![4]⟩
abbrev S16x16 : Shape := ⟨2, ![16, 16]⟩
abbrev S16 : Shape := ⟨1, ![16]⟩
abbrev S1000000x16 : Shape := ⟨2, ![1000000, 16]⟩
abbrev S_ : Shape := ⟨0, ![]⟩
abbrev S1x16 : Shape := ⟨2, ![1, 16]⟩

abbrev nBuf : Space → Nat
  | .hbm => 43
  | .vmem => 0
  | .smem => 0
  | _ => 0

abbrev bufTy : (tb : Table) → Fin (tcTables nBuf tb) → BufTy
  | .hbm, ⟨0, _⟩ => ⟨S1000000x3, .f32⟩
  | .hbm, ⟨1, _⟩ => ⟨S1000000x13, .f32⟩
  | .hbm, ⟨2, _⟩ => ⟨S4, .i32⟩
  | .hbm, ⟨3, _⟩ => ⟨S1000000x3, .f32⟩
  | .hbm, ⟨4, _⟩ => ⟨S16x16, .f32⟩
  | .hbm, ⟨5, _⟩ => ⟨S16, .f32⟩
  | .hbm, ⟨6, _⟩ => ⟨S16, .f32⟩
  | .hbm, ⟨7, _⟩ => ⟨S1000000x16, .f32⟩
  | .hbm, ⟨8, _⟩ => ⟨S16x16, .f32⟩
  | .hbm, ⟨9, _⟩ => ⟨S1000000x16, .f32⟩
  | .hbm, ⟨10, _⟩ => ⟨S_, .f32⟩
  | .hbm, ⟨11, _⟩ => ⟨S16, .f32⟩
  | .hbm, ⟨12, _⟩ => ⟨S_, .f32⟩
  | .hbm, ⟨13, _⟩ => ⟨S16, .f32⟩
  | .hbm, ⟨14, _⟩ => ⟨S16, .f32⟩
  | .hbm, ⟨15, _⟩ => ⟨S1x16, .f32⟩
  | .hbm, ⟨16, _⟩ => ⟨S1000000x16, .f32⟩
  | .hbm, ⟨17, _⟩ => ⟨S1000000x16, .f32⟩
  | .hbm, ⟨18, _⟩ => ⟨S1000000x16, .f32⟩
  | .hbm, ⟨19, _⟩ => ⟨S_, .f32⟩
  | .hbm, ⟨20, _⟩ => ⟨S16, .f32⟩
  | .hbm, ⟨21, _⟩ => ⟨S_, .f32⟩
  | .hbm, ⟨22, _⟩ => ⟨S16, .f32⟩
  | .hbm, ⟨23, _⟩ => ⟨S16, .f32⟩
  | .hbm, ⟨24, _⟩ => ⟨S1x16, .f32⟩
  | .hbm, ⟨25, _⟩ => ⟨S1000000x16, .f32⟩
  | .hbm, ⟨26, _⟩ => ⟨S1000000x16, .f32⟩
  | .hbm, ⟨27, _⟩ => ⟨S_, .f32⟩
  | .hbm, ⟨28, _⟩ => ⟨S16, .f32⟩
  | .hbm, ⟨29, _⟩ => ⟨S16, .f32⟩
  | .hbm, ⟨30, _⟩ => ⟨S16, .f32⟩
  | .hbm, ⟨31, _⟩ => ⟨S1x16, .f32⟩
  | .hbm, ⟨32, _⟩ => ⟨S1000000x16, .f32⟩
  | .hbm, ⟨33, _⟩ => ⟨S1000000x16, .f32⟩
  | .hbm, ⟨34, _⟩ => ⟨S1x16, .f32⟩
  | .hbm, ⟨35, _⟩ => ⟨S1000000x16, .f32⟩
  | .hbm, ⟨36, _⟩ => ⟨S1000000x16, .f32⟩
  | .hbm, ⟨37, _⟩ => ⟨S1x16, .f32⟩
  | .hbm, ⟨38, _⟩ => ⟨S1000000x16, .f32⟩
  | .hbm, ⟨39, _⟩ => ⟨S1000000x16, .f32⟩
  | .hbm, ⟨40, _⟩ => ⟨S_, .f32⟩
  | .hbm, ⟨41, _⟩ => ⟨S1000000x16, .f32⟩
  | .hbm, ⟨42, _⟩ => ⟨S1000000x16, .f32⟩
  | _, _ => ⟨S1000000x3, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_v0 : Ref sig .tc := ⟨.hbm, 7, rfl⟩
abbrev main_v1 : Ref sig .tc := ⟨.hbm, 8, rfl⟩
abbrev main_v2 : Ref sig .tc := ⟨.hbm, 9, rfl⟩
abbrev main_cst : Ref sig .tc := ⟨.hbm, 10, rfl⟩
abbrev main_v3 : Ref sig .tc := ⟨.hbm, 11, rfl⟩
abbrev main_cst_0 : Ref sig .tc := ⟨.hbm, 12, rfl⟩
abbrev main_v4 : Ref sig .tc := ⟨.hbm, 13, rfl⟩
abbrev main_v5 : Ref sig .tc := ⟨.hbm, 14, rfl⟩
abbrev main_v6 : Ref sig .tc := ⟨.hbm, 15, rfl⟩
abbrev main_v7 : Ref sig .tc := ⟨.hbm, 16, rfl⟩
abbrev main_v8 : Ref sig .tc := ⟨.hbm, 17, rfl⟩
abbrev main_v9 : Ref sig .tc := ⟨.hbm, 18, rfl⟩
abbrev main_cst_1 : Ref sig .tc := ⟨.hbm, 19, rfl⟩
abbrev main_v10 : Ref sig .tc := ⟨.hbm, 20, rfl⟩
abbrev main_cst_2 : Ref sig .tc := ⟨.hbm, 21, rfl⟩
abbrev main_v11 : Ref sig .tc := ⟨.hbm, 22, rfl⟩
abbrev main_v12 : Ref sig .tc := ⟨.hbm, 23, rfl⟩
abbrev main_v13 : Ref sig .tc := ⟨.hbm, 24, rfl⟩
abbrev main_v14 : Ref sig .tc := ⟨.hbm, 25, rfl⟩
abbrev main_v15 : Ref sig .tc := ⟨.hbm, 26, rfl⟩
abbrev main_cst_3 : Ref sig .tc := ⟨.hbm, 27, rfl⟩
abbrev main_v16 : Ref sig .tc := ⟨.hbm, 28, rfl⟩
abbrev main_v17 : Ref sig .tc := ⟨.hbm, 29, rfl⟩
abbrev main_v18 : Ref sig .tc := ⟨.hbm, 30, rfl⟩
abbrev main_v19 : Ref sig .tc := ⟨.hbm, 31, rfl⟩
abbrev main_v20 : Ref sig .tc := ⟨.hbm, 32, rfl⟩
abbrev main_v21 : Ref sig .tc := ⟨.hbm, 33, rfl⟩
abbrev main_v22 : Ref sig .tc := ⟨.hbm, 34, rfl⟩
abbrev main_v23 : Ref sig .tc := ⟨.hbm, 35, rfl⟩
abbrev main_v24 : Ref sig .tc := ⟨.hbm, 36, rfl⟩
abbrev main_v25 : Ref sig .tc := ⟨.hbm, 37, rfl⟩
abbrev main_v26 : Ref sig .tc := ⟨.hbm, 38, rfl⟩
abbrev main_v27 : Ref sig .tc := ⟨.hbm, 39, rfl⟩
abbrev main_call0_cst : Ref sig .tc := ⟨.hbm, 40, rfl⟩
abbrev main_call0_v0 : Ref sig .tc := ⟨.hbm, 41, rfl⟩
abbrev main_v28 : Ref sig .tc := ⟨.hbm, 42, rfl⟩

abbrev nD : Nat := 1
abbrev τ : Topo := Topo.v7x

variable {F : FTy → Type} [FloatOps F]
-- ==== Proof.Steps.lean ====
/-
  Two steps of a kernel body over whole buffers, stated over ownership of a memref at known contents: a load through
  the rectangle of the memref's own sizes at zero offsets yields the contents, and an unmasked store through it
  leaves the stored value. The word of scalar memory is the one-element case of the first.
-/
module

public import Idealize.ShloMosaic.Lib.Memref
public import Idealize.ShloMosaic.Lib.Tactic

@[expose] public section

noncomputable section

namespace Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {nD : Nat} {τ : Topo} {sig : RefSig} {Val : EltTy → Type} {U : Type} [URA U] {Λ : Labels}
variable {α : Type}

local notation "𝕄" => MT nD τ sig Unit Val ℕ U ℕ

section

variable {defs : Defs nD τ sig Val Λ} (𝒱 : Variants) (c : Thread nD τ) (E : Set ℕ)
variable {cs : CoreSpace} {s : Shape} {e : EltTy}

/-- A load of a whole memref: the program continues at its contents. -/
theorem wp_load_all {m : Memref sig c.2.kind cs s e} {off : Fin s.rank → Nat} (hz : off = fun _ => 0)
    {inb : ∀ a, off a + s.size a ≤ s.size a}
    {hl : m.view.LoadsAt (Rect.unit off s.size inb).toLoadRect}
    {k : (s.Idx → Val e) → Prog (TpuEff nD τ sig Val Λ c.2) α} {q : PosShare TreeShare} {X : s.Idx → Val e}
    {Q : α → sProp 𝕄} :
    (owns c m q X : sProp 𝕄)
      ⊢ iprop(((owns c m q X : sProp 𝕄) -∗ wp frame (wpE defs 𝒱 c none) E (k X) Q)
        -∗ wp frame (wpE defs 𝒱 c none) E (.op (.load m (Rect.unit off s.size inb).toLoadRect hl) k) Q) := by
  subst hz
  unfold owns
  iintro ⟨%f, %hf, H⟩ Hk
  have h := wp_load (defs := defs) 𝒱 c none (Γ := []) E (Q := Q) (m := m) (r := (Rect.whole s).toLoadRect)
    (hl := hl) (k := k) (q := q) (f := f) (S := m.view.set) (m.view.setOn_subset_set _)
  iapply h $$ H
  iintro H
  have hr : m.view.readAt Val (Rect.whole s).toLoadRect f = X := by
    rw [← hf]; funext j
    show m.view.read Val f ((Rect.whole s).emb j) = _
    rw [Rect.emb_whole_apply]
  rw [hr]
  iapply Hk
  iexists f
  isplitr
  · ipureintro; exact hf
  iexact H

/-- An unmasked store of a whole memref: it then holds the value stored. -/
theorem wp_store_all {m : Memref sig c.2.kind cs s e} {off : Fin s.rank → Nat} (hz : off = fun _ => 0)
    {inb : ∀ a, off a + s.size a ≤ s.size a} {w : s.Idx → Val e}
    {hx : (m.access (Rect.unit off s.size inb)).Stores Finset.univ}
    {hm : (Finset.univ : Finset (Rect.unit off s.size inb).shape.Idx) = Finset.univ ∨ ∀ a, (Rect.unit off s.size inb).stride a = 1}
    {k : PUnit → Prog (TpuEff nD τ sig Val Λ c.2) α} {X : s.Idx → Val e}
    {Q : α → sProp 𝕄} :
    (owns c m fullShare X : sProp 𝕄)
      ⊢ iprop(((owns c m fullShare w : sProp 𝕄) -∗ wp frame (wpE defs 𝒱 c none) E (k ⟨⟩) Q)
        -∗ wp frame (wpE defs 𝒱 c none) E (.op (.store m (Rect.unit off s.size inb) w Finset.univ hx hm) k) Q) := by
  subst hz
  unfold owns
  iintro ⟨%f, %hf, H⟩ Hk
  have h := wp_store (defs := defs) 𝒱 c none (Γ := []) E (Q := Q) (m := m) (r := Rect.whole s) (w := w) (Mk := Finset.univ)
    (hx := hx) (hm := hm) (k := k) (f := f) (S := m.view.set)
    (by rw [View.setOn_univ, View.set_slice]; exact m.view.setOn_subset_set _)
  iapply h $$ H
  iintro H
  iapply Hk
  iexists (m.access (Rect.whole s)).write Val f w Finset.univ
  isplitr
  · ipureintro
    have h := View.read_write_univ (v := (m.access (Rect.whole s))) (Val := Val) f w
    funext j
    have hj := congrFun h j
    have he : ((Rect.whole s).emb j) = j := Rect.emb_whole_apply _ j
    rw [← hj]
    show m.view.read Val _ j = m.view.read Val _ ((Rect.whole s).emb j)
    rw [he]
  iexact H

end

/-- The word of a scalar buffer that holds one word throughout. -/
theorem wp_word {defs : Defs nD τ sig Val Λ} (𝒱 : Variants) (c : Thread nD τ) (E : Set ℕ)
    {s : Shape} {e : EltTy} {m : Memref sig c.2.kind .smem s e} {off : Fin s.rank → Nat}
    (hz : off = fun _ => 0) {inb : ∀ a, off a + s.size a ≤ s.size a}
    {h1 : (Rect.unit off s.size inb).shape.numel = 1} {hp : e.packing = 1}
    {k : Val e → Prog (TpuEff nD τ sig Val Λ c.2) α} {q : PosShare TreeShare} {x : Val e}
    {Q : α → sProp 𝕄} :
    (owns c m q (fun _ => x) : sProp 𝕄)
      ⊢ iprop(((owns c m q (fun _ => x) : sProp 𝕄) -∗ wp frame (wpE defs 𝒱 c none) E (k x) Q)
        -∗ wp frame (wpE defs 𝒱 c none) E (smemLoad m (Rect.unit off s.size inb) h1 hp >>= k) Q) :=
  wp_load_all (defs := defs) (Λ := Λ) 𝒱 c E (m := m) hz (inb := inb) (hl := View.loadsAt_rect (View.loads_smem_one hp h1))
    (k := fun f => k (f (Shape.Idx.first (h1.symm ▸ Nat.one_pos)))) (q := q) (X := fun _ => x) (Q := Q)

end Cert.Steps
-- ==== Proof.Kernel.Run.lean ====
/-
  The kernel's run at any float values: it ends, from any launch, with the arguments unchanged and every counter at
  zero. What the two pipelines write is forgotten: each may leave its arrays at any contents, and the state between the
  program's items says only that the arguments are as they were.
-/
module

public import proofs.«01_k».proof.Proof.Kernel.Body
public import proofs.«01_k».proof.Proof.Gen.Kernel.Regions
public import Idealize.ShloMosaic.Lib.Pipeline.RegionArraysF
public import Idealize.ShloMosaic.Lib.Pipeline.RegionArraysS
public import Idealize.ShloMosaic.Lib.Pipeline.FrameBody
public import Idealize.ShloMosaic.Lib.Pipeline.Kit
public import Idealize.ShloMosaic.Lib.Pointwise

@[expose] public section

set_option maxRecDepth 16384

noncomputable section

namespace Cert.Kernel.Hand

open Cert.Kernel Cert.Kernel.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg RDat BodyObligationLoose)

variable {F : FTy → Type} [FloatOps F]

/-- Two copies of the pipelines' ghost state: the launch theorem's and the one the regions spend. -/
abbrev UU : Type := UR sig nD τ × UR sig nD τ

local notation "𝕄" => MT nD τ sig Unit (Elt F) ℕ UU ℕ

theorem elt_nonempty (e : EltTy) : Nonempty (Elt F e) := inferInstance

/-! ## The grid -/

theorem coord0 (t : Fin cfg0.N) : (grid0.coords t 0).val = t.val := by
  have : t.val < 123 := lt_of_lt_of_eq t.isLt N_0
  rw [Pipeline.Grid.coords_val t 0 (S := 1) (B := 123) (by decide) rfl]; omega

/-! ## The two pipelines' proof data -/

/-- The proof data of a pipeline entered at `W`: the scoped buffers no window stages and the generator register are its
    invariant, and nothing is said of what the body leaves. -/
def pdats (W : Valuation τ sig (Elt F)) (p : Fin 2) (c : Dev nD) : Dat τ (Elt F) Unit ℕ UU ℕ (cfgs p) c where
  A w := W (Proc.devRef .tc (Pipeline.arrRef (cfgs p).spec w))
  after w t := fun _ => Classical.choice (elt_nonempty _)
  Φ _ := iprop(Pipeline.scopedRest (Ix := Unit) (Name := ℕ) (U := UU) (Lvl := ℕ) (Val := Elt F) (cfgs p).spec c ∗ ∃ r, prngReg c r)
  q _ := fullShare
  owed _ := 0

/-- Every window is forgotten. -/
abbrev fg : (p : Fin 2) → Fin (cfgs p).W → Bool := fun _ _ => true

abbrev some_ (c : Dev nD) (b : Ref sig .tc) : sProp 𝕄 := iprop(∃ f : Buf (Elt F) ((c.tc : Thread nD τ).loc b), ((c.tc : Thread nD τ).loc b) ↦{fullShare} f)

theorem body1 (W : Valuation τ sig (Elt F)) (c : Dev nD) : BodyObligationLoose (pdats W 1 c) (defs₀ (F := F)) 𝒱₀ () Set.univ (fg 1) := fun t => by
  show iprop((pdats W 1 c).Φ t.castSucc ∗ (pdats W 1 c).owesAt () t.castSucc ∗ bigSep Finset.univ fun w : Fin 7 =>
        iprop(∃ X, owns (c : Thread nD τ) ((cfg1.win w).stage (cfg1.slots t w)) fullShare X))
      ⊢ wp frame (wpE (defs₀ (F := F)) 𝒱₀ (c : Thread nD τ) none) Set.univ (bodyAt1 (F := F) t) fun _ =>
          iprop((pdats W 1 c).Φ t.castSucc ∗ (pdats W 1 c).owesAt () t.castSucc ∗ bigSep Finset.univ fun w : Fin 7 =>
            iprop(∃ X, owns (c : Thread nD τ) ((cfg1.win w).stage (cfg1.slots t w)) fullShare X))
  rw [bigSep_W1]
  iintro ⟨HΦ, Ho, ⟨%d0, H0⟩, ⟨%d1, H1⟩, ⟨%d2, H2⟩, ⟨%d3, H3⟩, ⟨%d4, H4⟩, ⟨%d5, H5⟩, ⟨%d6, H6⟩⟩
  iapply (sound_apply (F := F) c Set.univ (grid1.coords t) _ _ _ _ _ _ _ _ _ _ _ _ _ _ d0 d1 d2 d3 d4 d5 d6 _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iexists _; iexact H0
  isplitl [H1]; · iexists _; iexact H1
  isplitl [H2]; · iexists _; iexact H2
  isplitl [H3]; · iexists _; iexact H3
  isplitl [H4]; · iexists _; iexact H4
  isplitl [H5]; · iexists _; iexact H5
  iexists _; iexact H6

/-- The scoped buffers the first kernel's windows do not stage, its two scratch buffers apart. -/
def rest0 (c : Dev nD) : sProp 𝕄 :=
  iprop(some_ c cc1_stg0_0 ∗ some_ c cc1_stg0_1 ∗ some_ c cc1_stg1_0 ∗ some_ c cc1_stg1_1 ∗ some_ c cc1_stg2_0 ∗ some_ c cc1_stg3_0 ∗ some_ c cc1_stg4_0 ∗ some_ c cc1_stg5_0 ∗ some_ c cc1_stg5_1 ∗ some_ c cc1_stg6_0 ∗ some_ c cc1_stg6_1)

theorem rest0_split (c : Dev nD) :
    (Pipeline.scopedRest (Ix := Unit) (Name := ℕ) (U := UU) (Lvl := ℕ) (Val := Elt F) spec0 c : sProp 𝕄)
      = iprop(some_ c cc0_scratch0 ∗ some_ c cc0_scratch1 ∗ rest0 c) :=
  scopedRest0_eq c

/-- The first kernel's scratch buffers at some contents, and the rest. -/
theorem rest0_owns (c : Dev nD) :
    (Pipeline.scopedRest (Ix := Unit) (Name := ℕ) (U := UU) (Lvl := ℕ) (Val := Elt F) spec0 c : sProp 𝕄)
      ⊢ iprop(∃ s q : S16x1.Idx → Elt F .f32, owns (c : Thread nD τ) (Memref.whole cc0_scratch0) fullShare s
          ∗ owns (c : Thread nD τ) (Memref.whole cc0_scratch1) fullShare q ∗ rest0 c) := by
  rw [rest0_split]
  simp only [owns_whole_eq]
  iintro ⟨⟨%s, Hs⟩, ⟨%q, Hq⟩, Hr⟩
  iexists s; iexists q
  isplitl [Hs]; · iexists _; isplitr; swap; · iexact Hs
                  ipureintro; rfl
  isplitl [Hq]; · iexists _; isplitr; swap; · iexact Hq
                  ipureintro; rfl
  iexact Hr

theorem owns_rest0 (c : Dev nD) (s q : S16x1.Idx → Elt F .f32) :
    iprop(owns (c : Thread nD τ) (Memref.whole cc0_scratch0) fullShare s
          ∗ owns (c : Thread nD τ) (Memref.whole cc0_scratch1) fullShare q ∗ rest0 c)
      ⊢ (Pipeline.scopedRest (Ix := Unit) (Name := ℕ) (U := UU) (Lvl := ℕ) (Val := Elt F) spec0 c : sProp 𝕄) := by
  rw [rest0_split]
  simp only [owns_whole_eq]
  iintro ⟨⟨%s', %_, Hs⟩, ⟨%q', %_, Hq⟩, Hr⟩
  isplitl [Hs]; · iexists _; iexact Hs
  isplitl [Hq]; · iexists _; iexact Hq
  iexact Hr

theorem body0 (W : Valuation τ sig (Elt F)) (c : Dev nD) : BodyObligationLoose (pdats W 0 c) (defs₀ (F := F)) 𝒱₀ () Set.univ (fg 0) := fun t => by
  show iprop((Pipeline.scopedRest (Ix := Unit) (Name := ℕ) (U := UU) (Lvl := ℕ) (Val := Elt F) spec0 c ∗ ∃ r, prngReg c r)
        ∗ (pdats W 0 c).owesAt () t.castSucc ∗ bigSep Finset.univ fun w : Fin 10 =>
        iprop(∃ X, owns (c : Thread nD τ) ((cfg0.win w).stage (cfg0.slots t w)) fullShare X))
      ⊢ wp frame (wpE (defs₀ (F := F)) 𝒱₀ (c : Thread nD τ) none) Set.univ (bodyAt0 (F := F) t) fun _ =>
          iprop((Pipeline.scopedRest (Ix := Unit) (Name := ℕ) (U := UU) (Lvl := ℕ) (Val := Elt F) spec0 c ∗ ∃ r, prngReg c r)
            ∗ (pdats W 0 c).owesAt () t.castSucc ∗ bigSep Finset.univ fun w : Fin 10 =>
            iprop(∃ X, owns (c : Thread nD τ) ((cfg0.win w).stage (cfg0.slots t w)) fullShare X))
  rw [bigSep_W0]
  iintro ⟨⟨HΦ, Hp⟩, Ho, ⟨%d0, H0⟩, ⟨%d1, H1⟩, ⟨%d2, H2⟩, ⟨%d3, H3⟩, ⟨%d4, H4⟩, ⟨%d5, H5⟩, ⟨%d6, H6⟩, ⟨%d7, H7⟩, ⟨%d8, H8⟩, ⟨%d9, H9⟩⟩
  ihave HΦ := (rest0_owns c) $$ HΦ
  icases HΦ with ⟨%s, %q, Hs, Hq, Hr⟩
  obtain ⟨n, rfl⟩ : ∃ n : BitVec 32, d0 = fun _ => n := ⟨d0 (ix1 0), funext fun i => congrArg d0 (funext fun a => by
    match a with
    | ⟨0, _⟩ => exact Subsingleton.elim (α := Fin 1) _ _)⟩
  by_cases h0 : t.val = 0
  · iapply (sound_first (F := F) c Set.univ (grid0.coords t) ((coord0 t).trans h0) _ _ _ _ _ _ _ _ _ _ _ _ _ _ _ _ _ _ _ _ _ _ _ _ n d1 d2 d3 d4 s q _)
    isplitl [H0 H1 H2 H3 H4 Hs Hq]
    · isplitl [H0]; · iexact H0
      isplitl [H1]; · iexact H1
      isplitl [H2]; · iexact H2
      isplitl [H3]; · iexact H3
      isplitl [H4]; · iexact H4
      isplitl [Hs]; · iexact Hs
      iexact Hq
    iintro ⟨H0, H1, H2, H3, H4, Hs, Hq⟩
    isplitl [Hs Hq Hr Hp]
    · isplitr [Hp]; swap; · iexact Hp
      iapply (owns_rest0 c _ _)
      isplitl [Hs]; · iexact Hs
      isplitl [Hq]; · iexact Hq
      iexact Hr
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  by_cases hl : t.val ≠ 122
  · iapply (sound_inner (F := F) c Set.univ (grid0.coords t) (fun e => h0 ((coord0 t).symm.trans e)) (fun e => hl ((coord0 t).symm.trans e)) _ _ _ _ _ _ _ _ _ _ _ _ _ _ _ _ _ _ _ _ _ _ _ _ n d1 d2 d3 d4 s q _)
    isplitl [H0 H1 H2 H3 H4 Hs Hq]
    · isplitl [H0]; · iexact H0
      isplitl [H1]; · iexact H1
      isplitl [H2]; · iexact H2
      isplitl [H3]; · iexact H3
      isplitl [H4]; · iexact H4
      isplitl [Hs]; · iexact Hs
      iexact Hq
    iintro ⟨H0, H1, H2, H3, H4, Hs, Hq⟩
    isplitl [Hs Hq Hr Hp]
    · isplitr [Hp]; swap; · iexact Hp
      iapply (owns_rest0 c _ _)
      isplitl [Hs]; · iexact Hs
      isplitl [Hq]; · iexact Hq
      iexact Hr
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9
  · iapply (sound_last (F := F) c Set.univ (grid0.coords t) ((coord0 t).trans (not_not.mp hl)) _ _ _ _ _ _ _ _ _ _ _ _ _ _ _ _ _ _ _ _ _ _ _ _ n d1 d2 d3 d4 d5 d6 d7 d8 d9 s q _)
    isplitl [H0 H1 H2 H3 H4 H5 H6 H7 H8 H9 Hs Hq]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hs]; · iexact Hs
      iexact Hq
    iintro ⟨H0, H1, H2, H3, H4, H5, H6, H7, H8, H9, Hs, Hq⟩
    isplitl [Hs Hq Hr Hp]
    · isplitr [Hp]; swap; · iexact Hp
      iapply (owns_rest0 c _ _)
      isplitl [Hs]; · iexact Hs
      isplitl [Hq]; · iexact Hq
      iexact Hr
    isplitl [Ho]; · iexact Ho
    isplitl [H0]; · iexists _; iexact H0
    isplitl [H1]; · iexists _; iexact H1
    isplitl [H2]; · iexists _; iexact H2
    isplitl [H3]; · iexists _; iexact H3
    isplitl [H4]; · iexists _; iexact H4
    isplitl [H5]; · iexists _; iexact H5
    isplitl [H6]; · iexists _; iexact H6
    isplitl [H7]; · iexists _; iexact H7
    isplitl [H8]; · iexists _; iexact H8
    iexists _; iexact H9

/-! ## The regions -/

abbrev L : GSem nD τ sig → Finset Unit := fun g => if g.1.2 = .tc then Finset.univ else ∅
abbrev lv : GSem nD τ sig → Unit → ℕ := fun _ _ => 0

theorem cut (p : Fin 2) : Pipeline.LevelCut (pcfgs (F := F)) adm () L lv p (fun _ : Dev nD => (0 : CellTallies nD τ sig Unit)) fun _ => 0 where
  hι _ _ _ := by simp [L]
  hιb _ _ _ := le_refl _
  hD _ _ _ h := absurd h (lt_irrefl _)

/-- Some contents of every buffer with a pipeline's arrays at `A` and the others as they were. -/
theorem exists_set {W N : ℕ} {gr : ℕ} (win : Fin W → Pipeline.WinSpec sig gr) (hinj : Function.Injective (Pipeline.arrRef win))
    (V : Valuation τ sig (Elt F)) (A : (w : Fin W) → (Proc.devRef .tc (Pipeline.arrRef win w) : DevRef τ sig).ty.Contents (Elt F)) :
    ∃ V' : Valuation τ sig (Elt F), (∀ w, A w = V' (Proc.devRef .tc (Pipeline.arrRef win w)))
      ∧ ∀ b, (∀ w, b ≠ Proc.devRef .tc (Pipeline.arrRef win w)) → V' b = V b := by
  classical
  refine ⟨fun b => if h : ∃ w, (Proc.devRef .tc (Pipeline.arrRef win w) : DevRef τ sig) = b then h.choose_spec ▸ A h.choose else V b, fun w => ?_, fun b hb => ?_⟩
  · have h : ∃ w', (Proc.devRef .tc (Pipeline.arrRef win w') : DevRef τ sig) = Proc.devRef .tc (Pipeline.arrRef win w) := ⟨w, rfl⟩
    have key : ∀ (w' : Fin W) (e : (Proc.devRef .tc (Pipeline.arrRef win w') : DevRef τ sig) = Proc.devRef .tc (Pipeline.arrRef win w)),
        (e ▸ A w' : (Proc.devRef .tc (Pipeline.arrRef win w) : DevRef τ sig).ty.Contents (Elt F)) = A w := by
      intro w' e
      obtain rfl : w' = w := hinj (Proc.devRef_injective _ e)
      rfl
    dsimp only
    rw [dif_pos h]
    exact (key _ h.choose_spec).symm
  · exact dif_neg fun ⟨w, e⟩ => hb w e.symm

theorem keep2 (X Y Z : sProp 𝕄) : iprop(X ∗ Y ∗ Z) ⊢ iprop(X ∗ Y) := by
  iintro ⟨HX, HY, -⟩
  isplitl [HX]; · iexact HX
  iexact HY

theorem grow (c : Dev nD) (X Y : sProp 𝕄) (f g : Ref sig .tc → sProp 𝕄) :
    iprop(X ∗ Y) ⊢ iprop(X ∗ Y ∗ Pipeline.ownSems0 (Val := Elt F) (fun k : PEmpty => k.elim) c ∗ bigSep ∅ f ∗ bigSep ∅ g) := by
  rw [Pipeline.ownSems0_none, BI.bigSep_empty, BI.bigSep_empty]
  iintro ⟨HX, HY⟩
  isplitl [HX]; · iexact HX
  isplitl [HY]; · iexact HY
  isplitr; · iempintro
  isplitl <;> iempintro

theorem waits (c : Dev nD) : (levAts (L : GSem nD τ sig → Finset Unit) lv : sProp 𝕄) ⊢ Transfers.MayWaits (c : Thread nD τ) () (0 : CellTallies nD τ sig Unit) := by
  iintro -; iapply (Transfers.MayWaits.zero (c : Thread nD τ) ()); iempintro

theorem no_refs {H : Finset (DevRef τ sig)} : Pipeline.hbmRefs (τ := τ) (sig := sig) ∅ ⊆ H := fun b hb => by simp [Pipeline.hbmRefs] at hb

/-- The buffers after region 0: its arrays at `A`, the others as they were. -/
def mk0 (W : Valuation τ sig (Elt F)) (A : (w : Fin 10) → (Proc.devRef .tc (Pipeline.arrRef spec0 w) : DevRef τ sig).ty.Contents (Elt F)) : Valuation τ sig (Elt F) :=
  (exists_set (N := 0) spec0 launch0.win.arr_inj W A).choose
theorem mk0_arr (W : Valuation τ sig (Elt F)) (A) (w : Fin 10) : A w = mk0 W A (Proc.devRef .tc (Pipeline.arrRef spec0 w)) :=
  (exists_set (N := 0) spec0 launch0.win.arr_inj W A).choose_spec.1 w
theorem mk0_ne (W : Valuation τ sig (Elt F)) (A) (b : DevRef τ sig) (h : ∀ w : Fin 10, b ≠ Proc.devRef .tc (Pipeline.arrRef spec0 w)) : mk0 W A b = W b :=
  (exists_set (N := 0) spec0 launch0.win.arr_inj W A).choose_spec.2 b h

theorem sub0 : Pipeline.arrRefs (τ := τ) spec0 ⊆ Pipeline.ucRefs τ sig := Pipeline.arrRefs_sub_ucRefs spec0 (by decide)

theorem mk0_rest (W : Valuation τ sig (Elt F)) (A) (b : DevRef τ sig) (h : b ∉ Pipeline.arrRefs (τ := τ) spec0) : mk0 W A b = W b :=
  mk0_ne W A b fun w e => h (by rw [e]; exact Finset.mem_map_of_mem _ (Finset.mem_image_of_mem _ (Finset.mem_univ w)))

def R0 (W : Valuation τ sig (Elt F)) : RDat.RegionSeg (pcfgs (F := F)) adm (Pipeline.toRsF (pcfgs (F := F)) adm (pdats W) fg) () defs₀ 𝒱₀ L lv 0 :=
  RDat.RegionSeg.ofHeldF (pcfgs (F := F)) adm (pdats W) () defs₀ 𝒱₀ L lv 0 (fun _ => 0) fg (K := PEmpty) () (fun k => k.elim)
    (Pipeline.OwnSemFacts.none _) ∅ ∅ (Pipeline.ucRefs τ sig \ Pipeline.arrRefs spec0) no_refs no_refs launch0.toP rfl
    (fun c => body0 W c) (fun _ _ => rfl) (fun _ => rfl) (fun c => (pdats W 0 c).share_full fun _ => rfl)
    waits (fun _ => W)
    (fun c A _ => mk0 W A) (fun c A _ _ w => mk0_arr W A w) (fun _ _ _ b hb => absurd hb (Finset.notMem_empty b))
    (fun c A _ d hd => mk0_rest W A d (Finset.mem_sdiff.mp (Finset.mem_sdiff.mp (Finset.mem_sdiff.mp hd).1).1).2)
    (fun c A _ d hd => absurd (no_refs (H := ∅) hd) (Finset.notMem_empty d))
    (fun c => keep2 _ _ _) (fun c => grow c _ _ _ _)
    (fun _ => 0) (cut 0) (fun _ => iprop(emp)) (fun _ _ => rfl)

/-- The buffers after region 1: its arrays at `A`, the others as they were. -/
def mk1 (W : Valuation τ sig (Elt F)) (A : (w : Fin 7) → (Proc.devRef .tc (Pipeline.arrRef spec1 w) : DevRef τ sig).ty.Contents (Elt F)) : Valuation τ sig (Elt F) :=
  (exists_set (N := 0) spec1 launch1.win.arr_inj W A).choose
theorem mk1_arr (W : Valuation τ sig (Elt F)) (A) (w : Fin 7) : A w = mk1 W A (Proc.devRef .tc (Pipeline.arrRef spec1 w)) :=
  (exists_set (N := 0) spec1 launch1.win.arr_inj W A).choose_spec.1 w
theorem mk1_ne (W : Valuation τ sig (Elt F)) (A) (b : DevRef τ sig) (h : ∀ w : Fin 7, b ≠ Proc.devRef .tc (Pipeline.arrRef spec1 w)) : mk1 W A b = W b :=
  (exists_set (N := 0) spec1 launch1.win.arr_inj W A).choose_spec.2 b h

theorem sub1 : Pipeline.arrRefs (τ := τ) spec1 ⊆ Pipeline.ucRefs τ sig := Pipeline.arrRefs_sub_ucRefs spec1 (by decide)

theorem mk1_rest (W : Valuation τ sig (Elt F)) (A) (b : DevRef τ sig) (h : b ∉ Pipeline.arrRefs (τ := τ) spec1) : mk1 W A b = W b :=
  mk1_ne W A b fun w e => h (by rw [e]; exact Finset.mem_map_of_mem _ (Finset.mem_image_of_mem _ (Finset.mem_univ w)))

def R1 (W : Valuation τ sig (Elt F)) : RDat.RegionSeg (pcfgs (F := F)) adm (Pipeline.toRsF (pcfgs (F := F)) adm (pdats W) fg) () defs₀ 𝒱₀ L lv 1 :=
  RDat.RegionSeg.ofHeldF (pcfgs (F := F)) adm (pdats W) () defs₀ 𝒱₀ L lv 1 (fun _ => 0) fg (K := PEmpty) () (fun k => k.elim)
    (Pipeline.OwnSemFacts.none _) ∅ ∅ (Pipeline.ucRefs τ sig \ Pipeline.arrRefs spec1) no_refs no_refs launch1.toP rfl
    (fun c => body1 W c) (fun _ _ => rfl) (fun _ => rfl) (fun c => (pdats W 1 c).share_full fun _ => rfl)
    waits (fun _ => W)
    (fun c A _ => mk1 W A) (fun c A _ _ w => mk1_arr W A w) (fun _ _ _ b hb => absurd hb (Finset.notMem_empty b))
    (fun c A _ d hd => mk1_rest W A d (Finset.mem_sdiff.mp (Finset.mem_sdiff.mp (Finset.mem_sdiff.mp hd).1).1).2)
    (fun c A _ d hd => absurd (no_refs (H := ∅) hd) (Finset.notMem_empty d))
    (fun c => keep2 _ _ _) (fun c => grow c _ _ _ _)
    (fun _ => 0) (cut 1) (fun _ => iprop(emp)) (fun _ _ => rfl)

/-! ## The program's items -/

variable (m : (ℓ : Loc nD τ sig) → Buf (Elt F) ℓ)

/-- Contents at which the arguments are as launched. -/
def Keeps (c : Dev nD) (W : Valuation τ sig (Elt F)) : Prop :=
  W main_arg0 = V0 m c main_arg0 ∧ W main_arg1 = V0 m c main_arg1 ∧ W main_arg2 = V0 m c main_arg2 ∧ W main_arg3 = V0 m c main_arg3
    ∧ W main_arg4 = V0 m c main_arg4 ∧ W main_arg5 = V0 m c main_arg5 ∧ W main_arg6 = V0 m c main_arg6

/-- The state between the items: every unscoped buffer at some contents that keep the arguments. -/
def St (c : Dev nD) : sProp 𝕄 :=
  iprop((∃ W, ⌜Keeps m c W⌝ ∗ StableHlo.held (c : Thread nD τ) (Pipeline.ucRefs τ sig) W) ∗ (∃ r, prngReg c r)
    ∗ ∃ Wd, owes (c : Thread nD τ) (0 : CellTallies nD τ sig Unit) Wd)

/-- What entering region `p` spends. -/
def Gh (p : Fin 2) (c : Dev nD) : sProp 𝕄 :=
  iprop(Pipeline.cellsGhost (Pipeline.pin (pcfgs (F := F)) adm) (embR (A := UR sig nD τ)) p c
    ∗ Pipeline.toksInit (Pipeline.pin (pcfgs (F := F)) adm) (embR (A := UR sig nD τ)) p c)

theorem keeps0 (c : Dev nD) (W : Valuation τ sig (Elt F)) (h : Keeps m c W) : Keeps m c (StableHlo.after hostOps0 W) := by
  obtain ⟨h0, h1, h2, h3, h4, h5, h6⟩ := h
  refine ⟨?_, ?_, ?_, ?_, ?_, ?_, ?_⟩
  · exact (StableHlo.after_of_writes_sub hostOps0 _ hostOps0_writes (by decide)).trans h0
  · exact (StableHlo.after_of_writes_sub hostOps0 _ hostOps0_writes (by decide)).trans h1
  · exact (StableHlo.after_of_writes_sub hostOps0 _ hostOps0_writes (by decide)).trans h2
  · exact (StableHlo.after_of_writes_sub hostOps0 _ hostOps0_writes (by decide)).trans h3
  · exact (StableHlo.after_of_writes_sub hostOps0 _ hostOps0_writes (by decide)).trans h4
  · exact (StableHlo.after_of_writes_sub hostOps0 _ hostOps0_writes (by decide)).trans h5
  · exact (StableHlo.after_of_writes_sub hostOps0 _ hostOps0_writes (by decide)).trans h6

/-- Host operations as an item. -/
def host0 (R : Dev nD → sProp 𝕄) : HostSeg (Ix := Unit) (Name := ℕ) (U := UU) (Lvl := ℕ) (pcfgs (F := F)) defs₀ 𝒱₀ L lv where
  prog := StableHlo.seq hostOps0
  pre c := iprop(St m c ∗ R c)
  post c := iprop(St m c ∗ R c)
  run c {β} k K := by
    have hseq := fun W => StableHlo.wp_seq (defs := Pipeline.defs (pcfgs (F := F)) defs₀) (Variants.lift 𝒱₀) none Set.univ c (Pipeline.ucRefs τ sig) k (K := K) hostOps0
      (fun op h => Pipeline.sub_ucRefs op ((List.forall_iff_forall_mem.mp hostOps0_sub) op h))
      (fun op h => (List.forall_iff_forall_mem.mp hostOps0_fresh) op h) W
    unfold St
    iintro ⟨Hk, Hbd, ⟨⟨⟨%W, %hW, Hh⟩, Hp, HO⟩, HR⟩, -⟩
    iapply (hseq W) $$ [Hbd Hh]
    · isplitl [Hbd] <;> iassumption
    iintro ⟨Hbd, Hh⟩
    iapply Hk
    isplitl [Hbd]; · iexact Hbd
    isplitr [HR]; swap; · iexact HR
    isplitl [Hh]
    · iexists _; isplitr; swap; · iexact Hh
      ipureintro; exact keeps0 m c W hW
    isplitl [Hp] <;> iassumption

theorem keeps2 (c : Dev nD) (W : Valuation τ sig (Elt F)) (h : Keeps m c W) : Keeps m c (StableHlo.after hostOps2 W) := by
  obtain ⟨h0, h1, h2, h3, h4, h5, h6⟩ := h
  refine ⟨?_, ?_, ?_, ?_, ?_, ?_, ?_⟩
  · exact (StableHlo.after_of_writes_sub hostOps2 _ hostOps2_writes (by decide)).trans h0
  · exact (StableHlo.after_of_writes_sub hostOps2 _ hostOps2_writes (by decide)).trans h1
  · exact (StableHlo.after_of_writes_sub hostOps2 _ hostOps2_writes (by decide)).trans h2
  · exact (StableHlo.after_of_writes_sub hostOps2 _ hostOps2_writes (by decide)).trans h3
  · exact (StableHlo.after_of_writes_sub hostOps2 _ hostOps2_writes (by decide)).trans h4
  · exact (StableHlo.after_of_writes_sub hostOps2 _ hostOps2_writes (by decide)).trans h5
  · exact (StableHlo.after_of_writes_sub hostOps2 _ hostOps2_writes (by decide)).trans h6

/-- Host operations as an item. -/
def host2 (R : Dev nD → sProp 𝕄) : HostSeg (Ix := Unit) (Name := ℕ) (U := UU) (Lvl := ℕ) (pcfgs (F := F)) defs₀ 𝒱₀ L lv where
  prog := StableHlo.seq hostOps2
  pre c := iprop(St m c ∗ R c)
  post c := iprop(St m c ∗ R c)
  run c {β} k K := by
    have hseq := fun W => StableHlo.wp_seq (defs := Pipeline.defs (pcfgs (F := F)) defs₀) (Variants.lift 𝒱₀) none Set.univ c (Pipeline.ucRefs τ sig) k (K := K) hostOps2
      (fun op h => Pipeline.sub_ucRefs op ((List.forall_iff_forall_mem.mp hostOps2_sub) op h))
      (fun op h => (List.forall_iff_forall_mem.mp hostOps2_fresh) op h) W
    unfold St
    iintro ⟨Hk, Hbd, ⟨⟨⟨%W, %hW, Hh⟩, Hp, HO⟩, HR⟩, -⟩
    iapply (hseq W) $$ [Hbd Hh]
    · isplitl [Hbd] <;> iassumption
    iintro ⟨Hbd, Hh⟩
    iapply Hk
    isplitl [Hbd]; · iexact Hbd
    isplitr [HR]; swap; · iexact HR
    isplitl [Hh]
    · iexists _; isplitr; swap; · iexact Hh
      ipureintro; exact keeps2 m c W hW
    isplitl [Hp] <;> iassumption

theorem keepsR0 (c : Dev nD) (W : Valuation τ sig (Elt F)) (A) (h : Keeps m c W) : Keeps m c (mk0 W A) := by
  obtain ⟨h0, h1, h2, h3, h4, h5, h6⟩ := h
  have e : ∀ b : Ref sig .tc, (∀ w, b ≠ Pipeline.arrRef spec0 w) → mk0 W A (Proc.devRef .tc b) = W (Proc.devRef .tc b) :=
    fun b hb => mk0_ne W A _ fun w => StableHlo.devRef_ne_of_ne (hb w)
  exact ⟨(e main_arg0 (by decide)).trans h0, (e main_arg1 (by decide)).trans h1, (e main_arg2 (by decide)).trans h2, (e main_arg3 (by decide)).trans h3,
    (e main_arg4 (by decide)).trans h4, (e main_arg5 (by decide)).trans h5, (e main_arg6 (by decide)).trans h6⟩

theorem R0_pre (W : Valuation τ sig (Elt F)) (c : Dev nD) :
    iprop(StableHlo.held (c : Thread nD τ) (Pipeline.ucRefs τ sig) W ∗ (∃ r, prngReg c r) ∗ ∃ Wd, owes (c : Thread nD τ) (0 : CellTallies nD τ sig Unit) Wd)
      ⊢ (R0 (F := F) W).pre c := by
  show _ ⊢ iprop(StableHlo.held (c.tc : Thread nD τ) (Pipeline.arrRefs spec0) W ∗ (∃ r, prngReg c r)
    ∗ (StableHlo.held (c.tc : Thread nD τ) (Pipeline.ucRefs τ sig \ Pipeline.arrRefs spec0) W ∗ emp) ∗ ∃ Wd, owes (c : Thread nD τ) (0 : CellTallies nD τ sig Unit) Wd)
  rw [StableHlo.held_sub_split (c.tc : Thread nD τ) sub0 W]
  iintro ⟨⟨Ha, Hr⟩, Hp, HO⟩
  isplitl [Ha]; · iexact Ha
  isplitl [Hp]; · iexact Hp
  isplitr [HO]; swap; · iexact HO
  isplitl [Hr]; · iexact Hr
  iempintro

theorem R0_post (W : Valuation τ sig (Elt F)) (c : Dev nD) (hW : Keeps m c W) : (R0 (F := F) W).post c ⊢ St m c := by
  show iprop(∃ A, ∃ g, StableHlo.held (c.tc : Thread nD τ) (Pipeline.arrRefs spec0) (mk0 W A) ∗ (∃ r, prngReg c r)
    ∗ (StableHlo.held (c.tc : Thread nD τ) (Pipeline.ucRefs τ sig \ Pipeline.arrRefs spec0) (mk0 W A) ∗ emp) ∗ ∃ Wd, owes (c : Thread nD τ) (0 : CellTallies nD τ sig Unit) Wd) ⊢ _
  unfold St
  iintro ⟨%A, %g, Ha, Hp, ⟨Hr, -⟩, HO⟩
  isplitl [Ha Hr]
  · iexists mk0 W A
    isplitr
    · ipureintro; exact keepsR0 m c W A hW
    rw [StableHlo.held_sub_split (c.tc : Thread nD τ) sub0 (mk0 W A)]
    isplitl [Ha] <;> iassumption
  isplitl [Hp] <;> iassumption

/-- A region as an item. -/
def item0 (R : Dev nD → sProp 𝕄) : HostSeg (Ix := Unit) (Name := ℕ) (U := UU) (Lvl := ℕ) (pcfgs (F := F)) defs₀ 𝒱₀ L lv where
  prog := Prog.lift (.customCall (Pipeline.entry 0) ())
  pre c := iprop(St m c ∗ Gh 0 c ∗ R c)
  post c := iprop(St m c ∗ R c)
  run c {β} k K := by
    have hwp := fun W => RDat.RegionSeg.wp (pcfgs (F := F)) adm (Pipeline.toRsF (pcfgs (F := F)) adm (pdats W) fg) () cellOf_inj (embR (A := UR sig nD τ)) defs₀ 𝒱₀ L lv
      (R0 (F := F) W) c none (fun u h => nomatch h) k K
    have hpre := fun W => R0_pre (F := F) W c
    have hpost := fun W hW => R0_post m W c hW
    show _ ⊢ wp frame _ Set.univ (.op (.customCall (Pipeline.entry 0) ()) k) K
    unfold Gh
    conv => lhs; unfold St
    iintro ⟨Hk, Hbd, ⟨⟨⟨%W, %hW, Hh⟩, Hp, HO⟩, ⟨Hg, Ht⟩, HR⟩, HL⟩
    iapply (hwp W)
    isplitl [Hk HR]
    · iintro ⟨Hbd, Hpost⟩
      iapply Hk
      isplitl [Hbd]; · iexact Hbd
      isplitr [HR]; swap; · iexact HR
      ihave H := (hpost W hW) $$ Hpost
      unfold St
      iexact H
    isplitl [Hbd]; · iexact Hbd
    isplitl [Hh Hp HO]
    · iapply (hpre W)
      isplitl [Hh]; · iexact Hh
      isplitl [Hp] <;> iassumption
    isplitl [HL]; · iexact HL
    isplitl [Hg] <;> iassumption

theorem keepsR1 (c : Dev nD) (W : Valuation τ sig (Elt F)) (A) (h : Keeps m c W) : Keeps m c (mk1 W A) := by
  obtain ⟨h0, h1, h2, h3, h4, h5, h6⟩ := h
  have e : ∀ b : Ref sig .tc, (∀ w, b ≠ Pipeline.arrRef spec1 w) → mk1 W A (Proc.devRef .tc b) = W (Proc.devRef .tc b) :=
    fun b hb => mk1_ne W A _ fun w => StableHlo.devRef_ne_of_ne (hb w)
  exact ⟨(e main_arg0 (by decide)).trans h0, (e main_arg1 (by decide)).trans h1, (e main_arg2 (by decide)).trans h2, (e main_arg3 (by decide)).trans h3,
    (e main_arg4 (by decide)).trans h4, (e main_arg5 (by decide)).trans h5, (e main_arg6 (by decide)).trans h6⟩

theorem R1_pre (W : Valuation τ sig (Elt F)) (c : Dev nD) :
    iprop(StableHlo.held (c : Thread nD τ) (Pipeline.ucRefs τ sig) W ∗ (∃ r, prngReg c r) ∗ ∃ Wd, owes (c : Thread nD τ) (0 : CellTallies nD τ sig Unit) Wd)
      ⊢ (R1 (F := F) W).pre c := by
  show _ ⊢ iprop(StableHlo.held (c.tc : Thread nD τ) (Pipeline.arrRefs spec1) W ∗ (∃ r, prngReg c r)
    ∗ (StableHlo.held (c.tc : Thread nD τ) (Pipeline.ucRefs τ sig \ Pipeline.arrRefs spec1) W ∗ emp) ∗ ∃ Wd, owes (c : Thread nD τ) (0 : CellTallies nD τ sig Unit) Wd)
  rw [StableHlo.held_sub_split (c.tc : Thread nD τ) sub1 W]
  iintro ⟨⟨Ha, Hr⟩, Hp, HO⟩
  isplitl [Ha]; · iexact Ha
  isplitl [Hp]; · iexact Hp
  isplitr [HO]; swap; · iexact HO
  isplitl [Hr]; · iexact Hr
  iempintro

theorem R1_post (W : Valuation τ sig (Elt F)) (c : Dev nD) (hW : Keeps m c W) : (R1 (F := F) W).post c ⊢ St m c := by
  show iprop(∃ A, ∃ g, StableHlo.held (c.tc : Thread nD τ) (Pipeline.arrRefs spec1) (mk1 W A) ∗ (∃ r, prngReg c r)
    ∗ (StableHlo.held (c.tc : Thread nD τ) (Pipeline.ucRefs τ sig \ Pipeline.arrRefs spec1) (mk1 W A) ∗ emp) ∗ ∃ Wd, owes (c : Thread nD τ) (0 : CellTallies nD τ sig Unit) Wd) ⊢ _
  unfold St
  iintro ⟨%A, %g, Ha, Hp, ⟨Hr, -⟩, HO⟩
  isplitl [Ha Hr]
  · iexists mk1 W A
    isplitr
    · ipureintro; exact keepsR1 m c W A hW
    rw [StableHlo.held_sub_split (c.tc : Thread nD τ) sub1 (mk1 W A)]
    isplitl [Ha] <;> iassumption
  isplitl [Hp] <;> iassumption

/-- A region as an item. -/
def item1 (R : Dev nD → sProp 𝕄) : HostSeg (Ix := Unit) (Name := ℕ) (U := UU) (Lvl := ℕ) (pcfgs (F := F)) defs₀ 𝒱₀ L lv where
  prog := Prog.lift (.customCall (Pipeline.entry 1) ())
  pre c := iprop(St m c ∗ Gh 1 c ∗ R c)
  post c := iprop(St m c ∗ R c)
  run c {β} k K := by
    have hwp := fun W => RDat.RegionSeg.wp (pcfgs (F := F)) adm (Pipeline.toRsF (pcfgs (F := F)) adm (pdats W) fg) () cellOf_inj (embR (A := UR sig nD τ)) defs₀ 𝒱₀ L lv
      (R1 (F := F) W) c none (fun u h => nomatch h) k K
    have hpre := fun W => R1_pre (F := F) W c
    have hpost := fun W hW => R1_post m W c hW
    show _ ⊢ wp frame _ Set.univ (.op (.customCall (Pipeline.entry 1) ()) k) K
    unfold Gh
    conv => lhs; unfold St
    iintro ⟨Hk, Hbd, ⟨⟨⟨%W, %hW, Hh⟩, Hp, HO⟩, ⟨Hg, Ht⟩, HR⟩, HL⟩
    iapply (hwp W)
    isplitl [Hk HR]
    · iintro ⟨Hbd, Hpost⟩
      iapply Hk
      isplitl [Hbd]; · iexact Hbd
      isplitr [HR]; swap; · iexact HR
      ihave H := (hpost W hW) $$ Hpost
      unfold St
      iexact H
    isplitl [Hbd]; · iexact Hbd
    isplitl [Hh Hp HO]
    · iapply (hpre W)
      isplitl [Hh]; · iexact Hh
      isplitl [Hp] <;> iassumption
    isplitl [HL]; · iexact HL
    isplitl [Hg] <;> iassumption

/-! ## The run -/

abbrev items (c : Dev nD) : List (Seg (pcfgs (F := F)) adm (fun p c => pdats (V0 m c) p c) () defs₀ 𝒱₀ L lv) :=
  [.host (host0 m fun c => iprop(Gh 0 c ∗ Gh 1 c)), .host (item0 m (Gh 1)), .host (item1 m fun _ => iprop(emp)), .host (host2 m fun _ => iprop(emp))]

/-- The end's state: the buffers. -/
def Tn (c : Dev nD) : sProp 𝕄 := iprop(∃ W, ⌜Keeps m c W⌝ ∗ StableHlo.held (c : Thread nD τ) (Pipeline.ucRefs τ sig) W)

theorem add_emp (X : sProp 𝕄) (Y : sProp 𝕄) : iprop(X ∗ Y) ⊢ iprop(X ∗ Y ∗ emp) := by
  iintro ⟨HX, HY⟩
  isplitl [HX]; · iexact HX
  isplitl [HY]; · iexact HY
  iempintro

theorem last (c : Dev nD) : iprop(St m c ∗ emp) ⊢ iprop(Tn m c ∗ ∃ Wd, owes (c : Thread nD τ) (0 : CellTallies nD τ sig Unit) Wd) := by
  unfold St Tn
  iintro ⟨⟨Hh, -, HO⟩, -⟩
  isplitl [Hh] <;> iassumption

/-- The launch's ghost state: each copy's element. -/
abbrev u1 : UR sig nD τ := initOf (Pipeline.cells (cfgs) cellOf_inj) (Pipeline.launchToks (cfgs) cellOf_inj)

theorem deal : (BI.own ((embR (A := UR sig nD τ) : Emb (UR sig nD τ) 𝕄) u1) : sProp 𝕄)
    ⊢ iprop(|==> bigSep Finset.univ fun c : Dev nD => iprop(Gh (F := F) 0 c ∗ Gh 1 c)) := by
  have h2 : ∀ Φ : Fin 2 → sProp 𝕄, bigSep Finset.univ Φ = iprop(Φ 0 ∗ Φ 1) := fun Φ =>
    bigSep_univ_eq_bigSepL [0, 1] (by decide) (by decide) Φ
  have h := Pipeline.fund_ghost (Pipeline.pin (pcfgs (F := F)) adm) (embR (A := UR sig nD τ) : Emb (UR sig nD τ) 𝕄) cellOf_inj
  refine h.trans ?_
  iintro H
  imod H with ⟨Hc, Ht⟩
  imodintro
  unfold Gh
  simp only [h2, BI.bigSep_sep']
  icases Hc with ⟨Hc0, Hc1⟩
  icases Ht with ⟨Ht0, Ht1⟩
  isplitl [Hc0 Ht0]
  · isplitl [Hc0] <;> iassumption
  isplitl [Hc1] <;> iassumption

set_option backward.isDefEq.respectTransparency.types false in
/-- Every fair run ends, with the arguments unchanged and every counter at zero. -/
theorem run (ρ : Dev nD → PrngReg) :
    θ_run defs (onTc (τ := τ) (main (F := F))) ⟨m, fun _ => 0, ρ⟩ (fun r =>
      (∀ c : Dev nD, ∃ W, Keeps m c W ∧ ∀ b ∈ Pipeline.ucRefs τ sig, r.2.mem ((c : Thread nD τ).1, b) = W b) ∧ r.2.sem = fun _ => 0) := by
  refine Pipeline.θ_run_regions_kit_dev_sems (pcfgs (F := F)) adm (fun p c => pdats (V0 m c) p c) () cellOf_inj (embL (B := UR sig nD τ)) defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_nil]; decide) 0 (fun g h => if_neg h)
    (G := fun c => iprop(Gh 0 c ∗ Gh 1 c)) (u₀ := (u1, u1))
    (hu₀ := by
      iintro Hu
      ihave H := (ownU_pair u1 u1) $$ Hu
      icases H with ⟨HL, HR⟩
      ihave HG := deal $$ HR
      imod HG with HG
      imodintro
      isplitl [HL]; · iexact HL
      iexact HG)
    (T₀ := fun c => iprop(St m c ∗ (Gh 0 c ∗ Gh 1 c)))
    (Tₙ := Tn m)
    (hch := fun c => ⟨.rfl, .rfl, add_emp _ _, .rfl, last m c⟩)
    (hinit := ?_) (QY := fun c s => ∃ W, Keeps m c W ∧ ∀ b ∈ Pipeline.ucRefs τ sig, s.mem ((c : Thread nD τ).1, b) = W b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UU) (Lvl := ℕ) c (V0 m c)]
    unfold St
    iintro ⟨⟨Hh, -, HO, -, Hp, HG⟩, -⟩
    imodintro
    isplitr [HG]; swap; · iexact HG
    isplitl [Hh]
    · iexists _; isplitr; swap; · iexact Hh
      ipureintro; exact ⟨rfl, rfl, rfl, rfl, rfl, rfl, rfl⟩
    isplitl [Hp]; · iexists _; iexact Hp
    iexists _; iexact HO
  · unfold Tn StableHlo.held
    iintro ⟨⟨%W, %hW, Hh⟩, HSI⟩
    ihave Hr := (pointsTo_read_all (Pipeline.ucRefs τ sig) (fun b => ((c : Thread nD τ).1, b)) W s') $$ [Hh HSI]
    · isplitl [Hh] <;> iassumption
    icases Hr with ⟨%hr, HSI⟩
    imodintro
    isplitr; swap; · iexact HSI
    ipureintro; exact ⟨W, hW, hr⟩

/-- The claim: the run ends, with the arguments unchanged and every counter at zero. -/
theorem frame (ρ : Dev nD → PrngReg) :
    θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono ?_ (run (F := F) m ρ)
  rintro r ⟨h, hs⟩
  refine ⟨fun c => ?_, hs⟩
  obtain ⟨W, ⟨h0, h1, h2, h3, h4, h5, h6⟩, hr⟩ := h c
  have hm : ∀ b : Ref sig .tc, (Proc.devRef .tc b : DevRef τ sig).isScoped = false → (Proc.devRef .tc b : DevRef τ sig) ∈ Pipeline.ucRefs τ sig :=
    fun b hb => Finset.mem_filter.mpr ⟨StableHlo.devRef_mem_tcRefs b, by rw [hb]; decide⟩
  exact ⟨(hr _ (hm main_arg0 rfl)).trans h0, (hr _ (hm main_arg1 rfl)).trans h1, (hr _ (hm main_arg2 rfl)).trans h2, (hr _ (hm main_arg3 rfl)).trans h3,
    (hr _ (hm main_arg4 rfl)).trans h4, (hr _ (hm main_arg5 rfl)).trans h5, (hr _ (hm main_arg6 rfl)).trans h6⟩

end Cert.Kernel.Hand
-- ==== Proof.KernelIdeal.Body.lean ====
/-
  The two kernel bodies, each run once over whole buffers at any contents: what every buffer holds after the body, in
  terms of the named values the body computes. The accumulating kernel has three cases by the grid point: the first
  stores the block's sums, an inner one adds them to what the scratch buffers hold, and the last one adds the masked
  sums and stores the folded weights and shift.
-/
module

public import proofs.«01_k».proof.Proof.Steps
public import proofs.«01_k».proof.Proof.Gen.KernelIdeal.Launch
public import proofs.«01_k».proof.Proof.Gen.KernelIdeal.Skeleton
public import proofs.«01_k».proof.Proof.Gen.KernelIdeal.Points

@[expose] public section

set_option maxRecDepth 16384

noncomputable section

namespace Cert.KernelIdeal.Hand

open Cert.KernelIdeal Cert.KernelIdeal.Gen
open Cert.Steps

open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem

variable {F : FTy → Type} [FloatOps F]
variable {U : Type} [URA U]

local notation "𝕄" => MT nD τ sig Unit (Elt F) ℕ U ℕ

/-- The kernels' variants: none. -/
abbrev 𝒱₀ : Variants := Variants.none

theorem hz2 : (![0, 0] : Fin 2 → Nat) = fun _ => 0 := funext fun a => by fin_cases a <;> rfl
theorem hz1 : (![0] : Fin 1 → Nat) = fun _ => 0 := funext fun a => by fin_cases a; rfl

/-! ## The conditions on the grid point -/

theorem cond_ne_last : ∀ n : Fin 123,
    Scalar.cmpi .ne (Scalar.extui (Scalar.cmpi .ne (BitVec.ofNat 32 n.val) 122#32) : BitVec 32) 0#32 = 1#1 ↔ n.val ≠ 122 := by
  decide +kernel
theorem cond_eq_last : ∀ n : Fin 123,
    Scalar.cmpi .ne (Scalar.extui (Scalar.cmpi .eq (BitVec.ofNat 32 n.val) 122#32) : BitVec 32) 0#32 = 1#1 ↔ n.val = 122 := by
  decide +kernel
theorem cond_eq_zero : ∀ n : Fin 123,
    Scalar.cmpi .ne (Scalar.extui (Scalar.cmpi .eq (BitVec.ofNat 32 n.val) 0#32) : BitVec 32) 0#32 = 1#1 ↔ n.val = 0 := by
  decide +kernel
theorem cond_ne_zero : ∀ n : Fin 123,
    Scalar.cmpi .ne (Scalar.extui (Scalar.cmpi .ne (BitVec.ofNat 32 n.val) 0#32) : BitVec 32) 0#32 = 1#1 ↔ n.val ≠ 0 := by
  decide +kernel

/-- The last point's condition, by the grid coordinate. -/
theorem cond4_iff (i : grid0.Coords) : k0_cond4 i = 1#1 ↔ (i 0).val = 122 := cond_eq_last (i 0)

/-! ## The second kernel -/

/-- The second kernel: its two result buffers end holding the block's activations and a copy of the features' block. -/
theorem sound_apply (c : Dev nD) (E : Set ℕ) (i : grid1.Coords)
    (a1 : Memref sig .tc .vmem S3x8192 .f32) (h1 : a1.IsWhole)
    (a2 : Memref sig .tc .vmem S13x8192 .f32) (h2 : a2.IsWhole)
    (a3 : Memref sig .tc .vmem S16x3 .f32) (h3 : a3.IsWhole)
    (a4 : Memref sig .tc .vmem S16x13 .f32) (h4 : a4.IsWhole)
    (a5 : Memref sig .tc .vmem S16x1 .f32) (h5 : a5.IsWhole)
    (a6 : Memref sig .tc .vmem S16x8192 .f32) (h6 : a6.IsWhole)
    (a7 : Memref sig .tc .vmem S13x8192 .f32) (h7 : a7.IsWhole)
    (x : Vec F S3x8192 .f32) (f : Vec F S13x8192 .f32) (ws : Vec F S16x3 .f32) (wf : Vec F S16x13 .f32) (sh : Vec F S16x1 .f32)
    (o : Vec F S16x8192 .f32) (v : Vec F S13x8192 .f32) (K : PUnit → sProp 𝕄) :
    iprop((owns (c : Thread nD τ) a1 fullShare x
        ∗ owns (c : Thread nD τ) a2 fullShare f
        ∗ owns (c : Thread nD τ) a3 fullShare ws
        ∗ owns (c : Thread nD τ) a4 fullShare wf
        ∗ owns (c : Thread nD τ) a5 fullShare sh
        ∗ owns (c : Thread nD τ) a6 fullShare o
        ∗ owns (c : Thread nD τ) a7 fullShare v)
        ∗ ((owns (c : Thread nD τ) a1 fullShare x
        ∗ owns (c : Thread nD τ) a2 fullShare f
        ∗ owns (c : Thread nD τ) a3 fullShare ws
        ∗ owns (c : Thread nD τ) a4 fullShare wf
        ∗ owns (c : Thread nD τ) a5 fullShare sh
        ∗ owns (c : Thread nD τ) a6 fullShare (k1_pay2 x f ws wf sh)
        ∗ owns (c : Thread nD τ) a7 fullShare (k1_pay1 f)) -∗ K ⟨⟩))
      ⊢ wp frame (wpE (defs₀ (F := F)) 𝒱₀ c none) E (cc1__apply_kernel i a1 h1 a2 h2 a3 h3 a4 h4 a5 h5 a6 h6 a7 h7) K := by
  simp only [cc1__apply_kernel_eq_skeleton]; unfold cc1__apply_kernel_skel
  try simp only [Prog.lift, Prog.bind_op, Prog.bind_ret]
  iintro ⟨⟨H1, H2, H3, H4, H5, H6, H7⟩, Hk⟩
  iapply (wp_load_all (defs := defs₀ (F := F)) 𝒱₀ (c : Thread nD τ) E hz2) $$ H1; iintro H1
  iapply (wp_load_all (defs := defs₀ (F := F)) 𝒱₀ (c : Thread nD τ) E hz2) $$ H2; iintro H2
  iapply (wp_load_all (defs := defs₀ (F := F)) 𝒱₀ (c : Thread nD τ) E hz2) $$ H7; iintro H7
  iapply (wp_store_all (defs := defs₀ (F := F)) 𝒱₀ (c : Thread nD τ) E hz2) $$ H7; iintro H7
  iapply (wp_load_all (defs := defs₀ (F := F)) 𝒱₀ (c : Thread nD τ) E hz2) $$ H3; iintro H3
  iapply (wp_load_all (defs := defs₀ (F := F)) 𝒱₀ (c : Thread nD τ) E hz2) $$ H4; iintro H4
  iapply (wp_load_all (defs := defs₀ (F := F)) 𝒱₀ (c : Thread nD τ) E hz2) $$ H5; iintro H5
  iapply (wp_load_all (defs := defs₀ (F := F)) 𝒱₀ (c : Thread nD τ) E hz2) $$ H6; iintro H6
  iapply (wp_store_all (defs := defs₀ (F := F)) 𝒱₀ (c : Thread nD τ) E hz2) $$ H6; iintro H6
  try dsimp only
  iapply (show K ⟨⟩ ⊢ wp frame (wpE (defs₀ (F := F)) 𝒱₀ (c : Thread nD τ) none) E (pure ⟨⟩) K from le_wp_ret _ _ _ _ _)
  iapply Hk
  isplitl [H1]; · iexact H1
  isplitl [H2]; · iexact H2
  isplitl [H3]; · iexact H3
  isplitl [H4]; · iexact H4
  isplitl [H5]; · iexact H5
  isplitl [H6]; · iexact H6
  iexact H7

/-! ## The first kernel -/

/-- At the first point the scratch buffers end holding the block's sums. -/
theorem sound_first (c : Dev nD) (E : Set ℕ) (i : grid0.Coords) (hi : (i 0).val = 0)
    (a1 : Memref sig .tc .smem S1 .i32) (h1 : a1.IsWhole)
    (a2 : Memref sig .tc .vmem S3x8192 .f32) (h2 : a2.IsWhole)
    (a3 : Memref sig .tc .vmem S13x8192 .f32) (h3 : a3.IsWhole)
    (a4 : Memref sig .tc .vmem S16x3 .f32) (h4 : a4.IsWhole)
    (a5 : Memref sig .tc .vmem S16x13 .f32) (h5 : a5.IsWhole)
    (a6 : Memref sig .tc .vmem S16x1 .f32) (h6 : a6.IsWhole)
    (a7 : Memref sig .tc .vmem S16x1 .f32) (h7 : a7.IsWhole)
    (a8 : Memref sig .tc .vmem S16x3 .f32) (h8 : a8.IsWhole)
    (a9 : Memref sig .tc .vmem S16x13 .f32) (h9 : a9.IsWhole)
    (a10 : Memref sig .tc .vmem S16x1 .f32) (h10 : a10.IsWhole)
    (a11 : Memref sig .tc .vmem S16x1 .f32) (h11 : a11.IsWhole)
    (a12 : Memref sig .tc .vmem S16x1 .f32) (h12 : a12.IsWhole)
    (n : BitVec 32) (x : Vec F S3x8192 .f32) (f : Vec F S13x8192 .f32) (w3 : Vec F S16x3 .f32) (wf : Vec F S16x13 .f32)
    (s q : Vec F S16x1 .f32) (K : PUnit → sProp 𝕄) :
    iprop((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a11 fullShare s
        ∗ owns (c : Thread nD τ) a12 fullShare q)
        ∗ ((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a11 fullShare (k0_pay4 x f w3 wf)
        ∗ owns (c : Thread nD τ) a12 fullShare (k0_pay5 x f w3 wf)) -∗ K ⟨⟩))
      ⊢ wp frame (wpE (defs₀ (F := F)) 𝒱₀ c none) E (cc0__stats_kernel i a1 h1 a2 h2 a3 h3 a4 h4 a5 h5 a6 h6 a7 h7 a8 h8 a9 h9 a10 h10 a11 h11 a12 h12) K := by
  simp only [cc0__stats_kernel_eq_skeleton]; unfold cc0__stats_kernel_skel
  try simp only [Prog.lift, Prog.bind_op, Prog.bind_ret]
  iintro ⟨⟨H1, H2, H3, H4, H5, H11, H12⟩, Hk⟩
  iapply (wp_word (defs := defs₀ (F := F)) 𝒱₀ (c : Thread nD τ) E hz1) $$ H1; iintro H1
  iapply (wp_load_all (defs := defs₀ (F := F)) 𝒱₀ (c : Thread nD τ) E hz2) $$ H2; iintro H2
  iapply (wp_load_all (defs := defs₀ (F := F)) 𝒱₀ (c : Thread nD τ) E hz2) $$ H3; iintro H3
  iapply (wp_load_all (defs := defs₀ (F := F)) 𝒱₀ (c : Thread nD τ) E hz2) $$ H4; iintro H4
  iapply (wp_load_all (defs := defs₀ (F := F)) 𝒱₀ (c : Thread nD τ) E hz2) $$ H5; iintro H5
  rw [dif_pos ((cond_ne_last (i 0)).mpr (by omega))]
  rw [dif_pos ((cond_eq_zero (i 0)).mpr hi)]
  try simp only [Prog.lift, Prog.bind_op, Prog.bind_ret]
  iapply (wp_load_all (defs := defs₀ (F := F)) 𝒱₀ (c : Thread nD τ) E hz2) $$ H11; iintro H11
  iapply (wp_store_all (defs := defs₀ (F := F)) 𝒱₀ (c : Thread nD τ) E hz2) $$ H11; iintro H11
  iapply (wp_load_all (defs := defs₀ (F := F)) 𝒱₀ (c : Thread nD τ) E hz2) $$ H12; iintro H12
  iapply (wp_store_all (defs := defs₀ (F := F)) 𝒱₀ (c : Thread nD τ) E hz2) $$ H12; iintro H12
  rw [dif_neg (fun h => (cond_ne_zero (i 0)).mp h hi)]
  try simp only [Prog.lift, Prog.bind_op, Prog.bind_ret]
  rw [dif_neg (fun h => absurd ((cond4_iff i).mp h) (by omega))]
  try simp only [Prog.lift, Prog.bind_op, Prog.bind_ret]
  try dsimp only
  iapply (show K ⟨⟩ ⊢ wp frame (wpE (defs₀ (F := F)) 𝒱₀ (c : Thread nD τ) none) E (pure ⟨⟩) K from le_wp_ret _ _ _ _ _)
  iapply Hk
  isplitl [H1]; · iexact H1
  isplitl [H2]; · iexact H2
  isplitl [H3]; · iexact H3
  isplitl [H4]; · iexact H4
  isplitl [H5]; · iexact H5
  isplitl [H11]; · iexact H11
  iexact H12

/-- At an inner point the scratch buffers end holding what they held plus the block's sums. -/
theorem sound_inner (c : Dev nD) (E : Set ℕ) (i : grid0.Coords) (hi : (i 0).val ≠ 0) (hl : (i 0).val ≠ 122)
    (a1 : Memref sig .tc .smem S1 .i32) (h1 : a1.IsWhole)
    (a2 : Memref sig .tc .vmem S3x8192 .f32) (h2 : a2.IsWhole)
    (a3 : Memref sig .tc .vmem S13x8192 .f32) (h3 : a3.IsWhole)
    (a4 : Memref sig .tc .vmem S16x3 .f32) (h4 : a4.IsWhole)
    (a5 : Memref sig .tc .vmem S16x13 .f32) (h5 : a5.IsWhole)
    (a6 : Memref sig .tc .vmem S16x1 .f32) (h6 : a6.IsWhole)
    (a7 : Memref sig .tc .vmem S16x1 .f32) (h7 : a7.IsWhole)
    (a8 : Memref sig .tc .vmem S16x3 .f32) (h8 : a8.IsWhole)
    (a9 : Memref sig .tc .vmem S16x13 .f32) (h9 : a9.IsWhole)
    (a10 : Memref sig .tc .vmem S16x1 .f32) (h10 : a10.IsWhole)
    (a11 : Memref sig .tc .vmem S16x1 .f32) (h11 : a11.IsWhole)
    (a12 : Memref sig .tc .vmem S16x1 .f32) (h12 : a12.IsWhole)
    (n : BitVec 32) (x : Vec F S3x8192 .f32) (f : Vec F S13x8192 .f32) (w3 : Vec F S16x3 .f32) (wf : Vec F S16x13 .f32)
    (s q : Vec F S16x1 .f32) (K : PUnit → sProp 𝕄) :
    iprop((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a11 fullShare s
        ∗ owns (c : Thread nD τ) a12 fullShare q)
        ∗ ((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a11 fullShare (k0_pay6 x f w3 wf s)
        ∗ owns (c : Thread nD τ) a12 fullShare (k0_pay7 x f w3 wf q)) -∗ K ⟨⟩))
      ⊢ wp frame (wpE (defs₀ (F := F)) 𝒱₀ c none) E (cc0__stats_kernel i a1 h1 a2 h2 a3 h3 a4 h4 a5 h5 a6 h6 a7 h7 a8 h8 a9 h9 a10 h10 a11 h11 a12 h12) K := by
  simp only [cc0__stats_kernel_eq_skeleton]; unfold cc0__stats_kernel_skel
  try simp only [Prog.lift, Prog.bind_op, Prog.bind_ret]
  iintro ⟨⟨H1, H2, H3, H4, H5, H11, H12⟩, Hk⟩
  iapply (wp_word (defs := defs₀ (F := F)) 𝒱₀ (c : Thread nD τ) E hz1) $$ H1; iintro H1
  iapply (wp_load_all (defs := defs₀ (F := F)) 𝒱₀ (c : Thread nD τ) E hz2) $$ H2; iintro H2
  iapply (wp_load_all (defs := defs₀ (F := F)) 𝒱₀ (c : Thread nD τ) E hz2) $$ H3; iintro H3
  iapply (wp_load_all (defs := defs₀ (F := F)) 𝒱₀ (c : Thread nD τ) E hz2) $$ H4; iintro H4
  iapply (wp_load_all (defs := defs₀ (F := F)) 𝒱₀ (c : Thread nD τ) E hz2) $$ H5; iintro H5
  rw [dif_pos ((cond_ne_last (i 0)).mpr hl)]
  rw [dif_neg (fun h => hi ((cond_eq_zero (i 0)).mp h))]
  try simp only [Prog.lift, Prog.bind_op, Prog.bind_ret]
  rw [dif_pos ((cond_ne_zero (i 0)).mpr hi)]
  try simp only [Prog.lift, Prog.bind_op, Prog.bind_ret]
  iapply (wp_load_all (defs := defs₀ (F := F)) 𝒱₀ (c : Thread nD τ) E hz2) $$ H11; iintro H11
  iapply (wp_load_all (defs := defs₀ (F := F)) 𝒱₀ (c : Thread nD τ) E hz2) $$ H11; iintro H11
  iapply (wp_store_all (defs := defs₀ (F := F)) 𝒱₀ (c : Thread nD τ) E hz2) $$ H11; iintro H11
  iapply (wp_load_all (defs := defs₀ (F := F)) 𝒱₀ (c : Thread nD τ) E hz2) $$ H12; iintro H12
  iapply (wp_load_all (defs := defs₀ (F := F)) 𝒱₀ (c : Thread nD τ) E hz2) $$ H12; iintro H12
  iapply (wp_store_all (defs := defs₀ (F := F)) 𝒱₀ (c : Thread nD τ) E hz2) $$ H12; iintro H12
  rw [dif_neg (fun h => absurd ((cond4_iff i).mp h) hl)]
  try simp only [Prog.lift, Prog.bind_op, Prog.bind_ret]
  try dsimp only
  iapply (show K ⟨⟩ ⊢ wp frame (wpE (defs₀ (F := F)) 𝒱₀ (c : Thread nD τ) none) E (pure ⟨⟩) K from le_wp_ret _ _ _ _ _)
  iapply Hk
  isplitl [H1]; · iexact H1
  isplitl [H2]; · iexact H2
  isplitl [H3]; · iexact H3
  isplitl [H4]; · iexact H4
  isplitl [H5]; · iexact H5
  isplitl [H11]; · iexact H11
  iexact H12

/-- The sums after the last point, from those before it. -/
abbrev lastS (i : grid0.Coords) (n : BitVec 32) (x : Vec F S3x8192 .f32) (f : Vec F S13x8192 .f32) (w3 : Vec F S16x3 .f32)
    (wf : Vec F S16x13 .f32) (s : Vec F S16x1 .f32) : FVec F S16x1 .f32 :=
  k0_pay15 (BitVec.ofNat 32 (i 0).val) n (k0_pay1 x f w3 wf) s
/-- The sums of squares after the last point, from those before it. -/
abbrev lastQ (i : grid0.Coords) (n : BitVec 32) (x : Vec F S3x8192 .f32) (f : Vec F S13x8192 .f32) (w3 : Vec F S16x3 .f32)
    (wf : Vec F S16x13 .f32) (q : Vec F S16x1 .f32) : FVec F S16x1 .f32 :=
  k0_pay16 (BitVec.ofNat 32 (i 0).val) n (k0_pay1 x f w3 wf) q

/-- At the last point the result buffers end holding the folded weights and shift. -/
theorem sound_last (c : Dev nD) (E : Set ℕ) (i : grid0.Coords) (hi : (i 0).val = 122)
    (a1 : Memref sig .tc .smem S1 .i32) (h1 : a1.IsWhole)
    (a2 : Memref sig .tc .vmem S3x8192 .f32) (h2 : a2.IsWhole)
    (a3 : Memref sig .tc .vmem S13x8192 .f32) (h3 : a3.IsWhole)
    (a4 : Memref sig .tc .vmem S16x3 .f32) (h4 : a4.IsWhole)
    (a5 : Memref sig .tc .vmem S16x13 .f32) (h5 : a5.IsWhole)
    (a6 : Memref sig .tc .vmem S16x1 .f32) (h6 : a6.IsWhole)
    (a7 : Memref sig .tc .vmem S16x1 .f32) (h7 : a7.IsWhole)
    (a8 : Memref sig .tc .vmem S16x3 .f32) (h8 : a8.IsWhole)
    (a9 : Memref sig .tc .vmem S16x13 .f32) (h9 : a9.IsWhole)
    (a10 : Memref sig .tc .vmem S16x1 .f32) (h10 : a10.IsWhole)
    (a11 : Memref sig .tc .vmem S16x1 .f32) (h11 : a11.IsWhole)
    (a12 : Memref sig .tc .vmem S16x1 .f32) (h12 : a12.IsWhole)
    (n : BitVec 32) (x : Vec F S3x8192 .f32) (f : Vec F S13x8192 .f32) (w3 : Vec F S16x3 .f32) (wf : Vec F S16x13 .f32)
    (g b : Vec F S16x1 .f32) (o3 : Vec F S16x3 .f32) (of : Vec F S16x13 .f32) (os s q : Vec F S16x1 .f32) (K : PUnit → sProp 𝕄) :
    iprop((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a6 fullShare g
        ∗ owns (c : Thread nD τ) a7 fullShare b
        ∗ owns (c : Thread nD τ) a8 fullShare o3
        ∗ owns (c : Thread nD τ) a9 fullShare of
        ∗ owns (c : Thread nD τ) a10 fullShare os
        ∗ owns (c : Thread nD τ) a11 fullShare s
        ∗ owns (c : Thread nD τ) a12 fullShare q)
        ∗ ((owns (c : Thread nD τ) a1 fullShare (fun _ => n : S1.Idx → Elt F .i32)
        ∗ owns (c : Thread nD τ) a2 fullShare x
        ∗ owns (c : Thread nD τ) a3 fullShare f
        ∗ owns (c : Thread nD τ) a4 fullShare w3
        ∗ owns (c : Thread nD τ) a5 fullShare wf
        ∗ owns (c : Thread nD τ) a6 fullShare g
        ∗ owns (c : Thread nD τ) a7 fullShare b
        ∗ owns (c : Thread nD τ) a8 fullShare (k0_pay20 n (lastS i n x f w3 wf s) (lastQ i n x f w3 wf q) g w3)
        ∗ owns (c : Thread nD τ) a9 fullShare (k0_pay8 (k0_pay19 n (lastS i n x f w3 wf s) (lastQ i n x f w3 wf q) g) wf)
        ∗ owns (c : Thread nD τ) a10 fullShare (k0_pay9 (k0_pay18 n (lastS i n x f w3 wf s)) (k0_pay19 n (lastS i n x f w3 wf s) (lastQ i n x f w3 wf q) g) b)
        ∗ owns (c : Thread nD τ) a11 fullShare (lastS i n x f w3 wf s)
        ∗ owns (c : Thread nD τ) a12 fullShare (lastQ i n x f w3 wf q)) -∗ K ⟨⟩))
      ⊢ wp frame (wpE (defs₀ (F := F)) 𝒱₀ c none) E (cc0__stats_kernel i a1 h1 a2 h2 a3 h3 a4 h4 a5 h5 a6 h6 a7 h7 a8 h8 a9 h9 a10 h10 a11 h11 a12 h12) K := by
  simp only [cc0__stats_kernel_eq_skeleton]; unfold cc0__stats_kernel_skel
  try simp only [Prog.lift, Prog.bind_op, Prog.bind_ret]
  iintro ⟨⟨H1, H2, H3, H4, H5, H6, H7, H8, H9, H10, H11, H12⟩, Hk⟩
  iapply (wp_word (defs := defs₀ (F := F)) 𝒱₀ (c : Thread nD τ) E hz1) $$ H1; iintro H1
  iapply (wp_load_all (defs := defs₀ (F := F)) 𝒱₀ (c : Thread nD τ) E hz2) $$ H2; iintro H2
  iapply (wp_load_all (defs := defs₀ (F := F)) 𝒱₀ (c : Thread nD τ) E hz2) $$ H3; iintro H3
  iapply (wp_load_all (defs := defs₀ (F := F)) 𝒱₀ (c : Thread nD τ) E hz2) $$ H4; iintro H4
  iapply (wp_load_all (defs := defs₀ (F := F)) 𝒱₀ (c : Thread nD τ) E hz2) $$ H5; iintro H5
  rw [dif_neg (fun h => (cond_ne_last (i 0)).mp h hi)]
  try simp only [Prog.lift, Prog.bind_op, Prog.bind_ret]
  rw [dif_pos ((cond4_iff i).mpr hi)]
  simp only [k0_part1_eq_skeleton]; unfold k0_part1_skel
  rw [dif_neg (fun h => absurd ((cond_eq_zero (i 0)).mp h) (by omega))]
  try simp only [Prog.lift, Prog.bind_op, Prog.bind_ret]
  rw [dif_pos ((cond_ne_zero (i 0)).mpr (by omega))]
  try simp only [Prog.lift, Prog.bind_op, Prog.bind_ret]
  iapply (wp_load_all (defs := defs₀ (F := F)) 𝒱₀ (c : Thread nD τ) E hz2) $$ H11; iintro H11
  iapply (wp_load_all (defs := defs₀ (F := F)) 𝒱₀ (c : Thread nD τ) E hz2) $$ H11; iintro H11
  iapply (wp_store_all (defs := defs₀ (F := F)) 𝒱₀ (c : Thread nD τ) E hz2) $$ H11; iintro H11
  iapply (wp_load_all (defs := defs₀ (F := F)) 𝒱₀ (c : Thread nD τ) E hz2) $$ H12; iintro H12
  iapply (wp_load_all (defs := defs₀ (F := F)) 𝒱₀ (c : Thread nD τ) E hz2) $$ H12; iintro H12
  iapply (wp_store_all (defs := defs₀ (F := F)) 𝒱₀ (c : Thread nD τ) E hz2) $$ H12; iintro H12
  iapply (wp_load_all (defs := defs₀ (F := F)) 𝒱₀ (c : Thread nD τ) E hz2) $$ H11; iintro H11
  iapply (wp_load_all (defs := defs₀ (F := F)) 𝒱₀ (c : Thread nD τ) E hz2) $$ H12; iintro H12
  iapply (wp_load_all (defs := defs₀ (F := F)) 𝒱₀ (c : Thread nD τ) E hz2) $$ H6; iintro H6
  iapply (wp_load_all (defs := defs₀ (F := F)) 𝒱₀ (c : Thread nD τ) E hz2) $$ H4; iintro H4
  iapply (wp_load_all (defs := defs₀ (F := F)) 𝒱₀ (c : Thread nD τ) E hz2) $$ H8; iintro H8
  iapply (wp_store_all (defs := defs₀ (F := F)) 𝒱₀ (c : Thread nD τ) E hz2) $$ H8; iintro H8
  iapply (wp_load_all (defs := defs₀ (F := F)) 𝒱₀ (c : Thread nD τ) E hz2) $$ H5; iintro H5
  iapply (wp_load_all (defs := defs₀ (F := F)) 𝒱₀ (c : Thread nD τ) E hz2) $$ H9; iintro H9
  iapply (wp_store_all (defs := defs₀ (F := F)) 𝒱₀ (c : Thread nD τ) E hz2) $$ H9; iintro H9
  iapply (wp_load_all (defs := defs₀ (F := F)) 𝒱₀ (c : Thread nD τ) E hz2) $$ H7; iintro H7
  iapply (wp_load_all (defs := defs₀ (F := F)) 𝒱₀ (c : Thread nD τ) E hz2) $$ H10; iintro H10
  iapply (wp_store_all (defs := defs₀ (F := F)) 𝒱₀ (c : Thread nD τ) E hz2) $$ H10; iintro H10
  try dsimp only
  iapply (show K ⟨⟩ ⊢ wp frame (wpE (defs₀ (F := F)) 𝒱₀ (c : Thread nD τ) none) E (pure ⟨⟩) K from le_wp_ret _ _ _ _ _)
  iapply Hk
  isplitl [H1]; · iexact H1
  isplitl [H2]; · iexact H2
  isplitl [H3]; · iexact H3
  isplitl [H4]; · iexact H4
  isplitl [H5]; · iexact H5
  isplitl [H6]; · iexact H6
  isplitl [H7]; · iexact H7
  isplitl [H8]; · iexact H8
  isplitl [H9]; · iexact H9
  isplitl [H10]; · iexact H10
  isplitl [H11]; · iexact H11
  iexact H12

end Cert.KernelIdeal.Hand
-- ==== Proof.KernelIdeal.Geometry.lean ====
/-
  Where the blocks lie: point `t`'s block of a column-tiled array is its columns `8192 t` to `8192 t + 8191`, those
  below a million, and a staging buffer a fetch has filled holds those columns and, past them, anything.
-/
module

public import proofs.«01_k».proof.Proof.KernelIdeal.Body
public import Idealize.ShloMosaic.Lib.Pipeline.Value
public import Idealize.ShloMosaic.Lib.Pipeline.FrameBody
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe
open Idealize.SL.Sem
open Idealize.ShloMosaic.Pipeline (Dat Cfg Window Clip)

theorem lt0 (t : Fin cfg0.N) : t.val < 123 := lt_of_lt_of_eq t.isLt N_0
theorem lt1 (t : Fin cfg1.N) : t.val < 123 := lt_of_lt_of_eq t.isLt N_1

/-- A grid coordinate is the point. -/
theorem coord0 (t : Fin cfg0.N) : (grid0.coords t 0).val = t.val := by
  have := lt0 t
  rw [Pipeline.Grid.coords_val t 0 (S := 1) (B := 123) (by decide) rfl]; omega
theorem coord1 (t : Fin cfg1.N) : (grid1.coords t 0).val = t.val := by
  have := lt1 t
  rw [Pipeline.Grid.coords_val t 0 (S := 1) (B := 123) (by decide) rfl]; omega

/-- The number of a block's columns that lie inside the array. -/
theorem clip_cols (t : ℕ) : (Clip.of t 8192 1000000).extent 8192 = min 8192 (1000000 - t * 8192) := by
  unfold Clip.of; split <;> simp only [Clip.extent] <;> omega

theorem clip_rows (n : ℕ) : (Clip.of 0 n n).extent n = n := by
  unfold Clip.of; rw [if_pos (by omega)]

theorem toNat_small (n : ℕ) (h : n < 123) : (BitVec.ofNat 32 n).toNat = n := by
  rw [BitVec.toNat_ofNat]; omega

theorem index0_1 (t : Fin cfg0.N) : win0_1.index t = ![0, t.val] := by
  show ![0, (BitVec.ofNat 32 (grid0.coords t 0).val).toNat] = _
  rw [coord0, toNat_small _ (lt0 t)]
theorem index0_2 (t : Fin cfg0.N) : win0_2.index t = ![0, t.val] := by
  show ![0, (BitVec.ofNat 32 (grid0.coords t 0).val).toNat] = _
  rw [coord0, toNat_small _ (lt0 t)]
theorem index1_0 (t : Fin cfg1.N) : win1_0.index t = ![0, t.val] := by
  show ![0, (BitVec.ofNat 32 (grid1.coords t 0).val).toNat] = _
  rw [coord1, toNat_small _ (lt1 t)]
theorem index1_1 (t : Fin cfg1.N) : win1_1.index t = ![0, t.val] := by
  show ![0, (BitVec.ofNat 32 (grid1.coords t 0).val).toNat] = _
  rw [coord1, toNat_small _ (lt1 t)]
theorem index1_5 (t : Fin cfg1.N) : win1_5.index t = ![0, t.val] := by
  show ![0, (BitVec.ofNat 32 (grid1.coords t 0).val).toNat] = _
  rw [coord1, toNat_small _ (lt1 t)]
theorem index1_6 (t : Fin cfg1.N) : win1_6.index t = ![0, t.val] := by
  show ![0, (BitVec.ofNat 32 (grid1.coords t 0).val).toNat] = _
  rw [coord1, toNat_small _ (lt1 t)]

/-- Whether an element of a block of window 0_1 lies inside the array: whether its column does. -/
theorem moved0_1 (t : Fin cfg0.N) (j : S3x8192.Idx) :
    win0_1.moved (grid0.coords t) j = true ↔ t.val * 8192 + (j 1).val < 1000000 := by
  rw [Window.moved_iff]
  have e0 : win0_1.xsize (grid0.coords t) 0 = 3 := by
    show (Clip.of (win0_1.index t 0) 3 3).extent 3 = 3
    rw [index0_1]; exact clip_rows 3
  have e1 : win0_1.xsize (grid0.coords t) 1 = min 8192 (1000000 - t.val * 8192) := by
    show (Clip.of (win0_1.index t 1) 8192 1000000).extent 8192 = _
    rw [index0_1]; exact clip_cols t.val
  have h0 : (j 0 : ℕ) < 3 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 0_1 sits in the array. -/
theorem emb0_1 (t : Fin cfg0.N) (y : (win0_1.xblock (grid0.coords t)).Idx) :
    (((win0_1.rect t).emb y 0 : Fin _) : ℕ) = (y 0).val ∧ (((win0_1.rect t).emb y 1 : Fin _) : ℕ) = t.val * 8192 + (y 1).val := by
  constructor
  · rw [Window.rect_emb_val win0_1 t y 0 rfl, index0_1]; show 0 * 3 + _ = _; simp
  · rw [Window.rect_emb_val win0_1 t y 1 rfl, index0_1]; rfl

/-- What a fetch of window 0_1 at point `t` leaves in a staging buffer that held `d`. -/
theorem fill0_1 {Val : EltTy → Type} (t : Fin cfg0.N) (A : S3x1000000.Idx → Val .f32) (d : S3x8192.Idx → Val .f32) (j : S3x8192.Idx) :
    win0_1.fill (grid0.coords t) d ((win0_1.blk t).view.read Val A) j
      = if h : t.val * 8192 + (j 1).val < 1000000 then A (ix2 (j 0) ⟨t.val * 8192 + (j 1).val, h⟩) else d j := by
  by_cases h : t.val * 8192 + (j 1).val < 1000000
  · unfold Window.fill
    rw [dif_pos ((moved0_1 t j).mpr h), dif_pos h]
    show A ((win0_1.rect t).emb _) = _
    congr 1
    funext a
    refine Fin.ext ?_
    match a with
    | ⟨0, _⟩ => exact (emb0_1 t _).1
    | ⟨1, _⟩ => exact (emb0_1 t _).2
  · rw [Window.fill_of_not_moved _ _ _ _ (fun hm => h ((moved0_1 t j).mp hm)), dif_neg h]

/-- Whether an element of a block of window 0_2 lies inside the array: whether its column does. -/
theorem moved0_2 (t : Fin cfg0.N) (j : S13x8192.Idx) :
    win0_2.moved (grid0.coords t) j = true ↔ t.val * 8192 + (j 1).val < 1000000 := by
  rw [Window.moved_iff]
  have e0 : win0_2.xsize (grid0.coords t) 0 = 13 := by
    show (Clip.of (win0_2.index t 0) 13 13).extent 13 = 13
    rw [index0_2]; exact clip_rows 13
  have e1 : win0_2.xsize (grid0.coords t) 1 = min 8192 (1000000 - t.val * 8192) := by
    show (Clip.of (win0_2.index t 1) 8192 1000000).extent 8192 = _
    rw [index0_2]; exact clip_cols t.val
  have h0 : (j 0 : ℕ) < 13 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 0_2 sits in the array. -/
theorem emb0_2 (t : Fin cfg0.N) (y : (win0_2.xblock (grid0.coords t)).Idx) :
    (((win0_2.rect t).emb y 0 : Fin _) : ℕ) = (y 0).val ∧ (((win0_2.rect t).emb y 1 : Fin _) : ℕ) = t.val * 8192 + (y 1).val := by
  constructor
  · rw [Window.rect_emb_val win0_2 t y 0 rfl, index0_2]; show 0 * 13 + _ = _; simp
  · rw [Window.rect_emb_val win0_2 t y 1 rfl, index0_2]; rfl

/-- What a fetch of window 0_2 at point `t` leaves in a staging buffer that held `d`. -/
theorem fill0_2 {Val : EltTy → Type} (t : Fin cfg0.N) (A : S13x1000000.Idx → Val .f32) (d : S13x8192.Idx → Val .f32) (j : S13x8192.Idx) :
    win0_2.fill (grid0.coords t) d ((win0_2.blk t).view.read Val A) j
      = if h : t.val * 8192 + (j 1).val < 1000000 then A (ix2 (j 0) ⟨t.val * 8192 + (j 1).val, h⟩) else d j := by
  by_cases h : t.val * 8192 + (j 1).val < 1000000
  · unfold Window.fill
    rw [dif_pos ((moved0_2 t j).mpr h), dif_pos h]
    show A ((win0_2.rect t).emb _) = _
    congr 1
    funext a
    refine Fin.ext ?_
    match a with
    | ⟨0, _⟩ => exact (emb0_2 t _).1
    | ⟨1, _⟩ => exact (emb0_2 t _).2
  · rw [Window.fill_of_not_moved _ _ _ _ (fun hm => h ((moved0_2 t j).mp hm)), dif_neg h]

/-- Whether an element of a block of window 1_0 lies inside the array: whether its column does. -/
theorem moved1_0 (t : Fin cfg1.N) (j : S3x8192.Idx) :
    win1_0.moved (grid1.coords t) j = true ↔ t.val * 8192 + (j 1).val < 1000000 := by
  rw [Window.moved_iff]
  have e0 : win1_0.xsize (grid1.coords t) 0 = 3 := by
    show (Clip.of (win1_0.index t 0) 3 3).extent 3 = 3
    rw [index1_0]; exact clip_rows 3
  have e1 : win1_0.xsize (grid1.coords t) 1 = min 8192 (1000000 - t.val * 8192) := by
    show (Clip.of (win1_0.index t 1) 8192 1000000).extent 8192 = _
    rw [index1_0]; exact clip_cols t.val
  have h0 : (j 0 : ℕ) < 3 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 1_0 sits in the array. -/
theorem emb1_0 (t : Fin cfg1.N) (y : (win1_0.xblock (grid1.coords t)).Idx) :
    (((win1_0.rect t).emb y 0 : Fin _) : ℕ) = (y 0).val ∧ (((win1_0.rect t).emb y 1 : Fin _) : ℕ) = t.val * 8192 + (y 1).val := by
  constructor
  · rw [Window.rect_emb_val win1_0 t y 0 rfl, index1_0]; show 0 * 3 + _ = _; simp
  · rw [Window.rect_emb_val win1_0 t y 1 rfl, index1_0]; rfl

/-- What a fetch of window 1_0 at point `t` leaves in a staging buffer that held `d`. -/
theorem fill1_0 {Val : EltTy → Type} (t : Fin cfg1.N) (A : S3x1000000.Idx → Val .f32) (d : S3x8192.Idx → Val .f32) (j : S3x8192.Idx) :
    win1_0.fill (grid1.coords t) d ((win1_0.blk t).view.read Val A) j
      = if h : t.val * 8192 + (j 1).val < 1000000 then A (ix2 (j 0) ⟨t.val * 8192 + (j 1).val, h⟩) else d j := by
  by_cases h : t.val * 8192 + (j 1).val < 1000000
  · unfold Window.fill
    rw [dif_pos ((moved1_0 t j).mpr h), dif_pos h]
    show A ((win1_0.rect t).emb _) = _
    congr 1
    funext a
    refine Fin.ext ?_
    match a with
    | ⟨0, _⟩ => exact (emb1_0 t _).1
    | ⟨1, _⟩ => exact (emb1_0 t _).2
  · rw [Window.fill_of_not_moved _ _ _ _ (fun hm => h ((moved1_0 t j).mp hm)), dif_neg h]

/-- Whether an element of a block of window 1_1 lies inside the array: whether its column does. -/
theorem moved1_1 (t : Fin cfg1.N) (j : S13x8192.Idx) :
    win1_1.moved (grid1.coords t) j = true ↔ t.val * 8192 + (j 1).val < 1000000 := by
  rw [Window.moved_iff]
  have e0 : win1_1.xsize (grid1.coords t) 0 = 13 := by
    show (Clip.of (win1_1.index t 0) 13 13).extent 13 = 13
    rw [index1_1]; exact clip_rows 13
  have e1 : win1_1.xsize (grid1.coords t) 1 = min 8192 (1000000 - t.val * 8192) := by
    show (Clip.of (win1_1.index t 1) 8192 1000000).extent 8192 = _
    rw [index1_1]; exact clip_cols t.val
  have h0 : (j 0 : ℕ) < 13 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 1_1 sits in the array. -/
theorem emb1_1 (t : Fin cfg1.N) (y : (win1_1.xblock (grid1.coords t)).Idx) :
    (((win1_1.rect t).emb y 0 : Fin _) : ℕ) = (y 0).val ∧ (((win1_1.rect t).emb y 1 : Fin _) : ℕ) = t.val * 8192 + (y 1).val := by
  constructor
  · rw [Window.rect_emb_val win1_1 t y 0 rfl, index1_1]; show 0 * 13 + _ = _; simp
  · rw [Window.rect_emb_val win1_1 t y 1 rfl, index1_1]; rfl

/-- What a fetch of window 1_1 at point `t` leaves in a staging buffer that held `d`. -/
theorem fill1_1 {Val : EltTy → Type} (t : Fin cfg1.N) (A : S13x1000000.Idx → Val .f32) (d : S13x8192.Idx → Val .f32) (j : S13x8192.Idx) :
    win1_1.fill (grid1.coords t) d ((win1_1.blk t).view.read Val A) j
      = if h : t.val * 8192 + (j 1).val < 1000000 then A (ix2 (j 0) ⟨t.val * 8192 + (j 1).val, h⟩) else d j := by
  by_cases h : t.val * 8192 + (j 1).val < 1000000
  · unfold Window.fill
    rw [dif_pos ((moved1_1 t j).mpr h), dif_pos h]
    show A ((win1_1.rect t).emb _) = _
    congr 1
    funext a
    refine Fin.ext ?_
    match a with
    | ⟨0, _⟩ => exact (emb1_1 t _).1
    | ⟨1, _⟩ => exact (emb1_1 t _).2
  · rw [Window.fill_of_not_moved _ _ _ _ (fun hm => h ((moved1_1 t j).mp hm)), dif_neg h]

/-- Whether an element of a block of window 1_5 lies inside the array: whether its column does. -/
theorem moved1_5 (t : Fin cfg1.N) (j : S16x8192.Idx) :
    win1_5.moved (grid1.coords t) j = true ↔ t.val * 8192 + (j 1).val < 1000000 := by
  rw [Window.moved_iff]
  have e0 : win1_5.xsize (grid1.coords t) 0 = 16 := by
    show (Clip.of (win1_5.index t 0) 16 16).extent 16 = 16
    rw [index1_5]; exact clip_rows 16
  have e1 : win1_5.xsize (grid1.coords t) 1 = min 8192 (1000000 - t.val * 8192) := by
    show (Clip.of (win1_5.index t 1) 8192 1000000).extent 8192 = _
    rw [index1_5]; exact clip_cols t.val
  have h0 : (j 0 : ℕ) < 16 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 1_5 sits in the array. -/
theorem emb1_5 (t : Fin cfg1.N) (y : (win1_5.xblock (grid1.coords t)).Idx) :
    (((win1_5.rect t).emb y 0 : Fin _) : ℕ) = (y 0).val ∧ (((win1_5.rect t).emb y 1 : Fin _) : ℕ) = t.val * 8192 + (y 1).val := by
  constructor
  · rw [Window.rect_emb_val win1_5 t y 0 rfl, index1_5]; show 0 * 16 + _ = _; simp
  · rw [Window.rect_emb_val win1_5 t y 1 rfl, index1_5]; rfl

/-- Whether an element of a block of window 1_6 lies inside the array: whether its column does. -/
theorem moved1_6 (t : Fin cfg1.N) (j : S13x8192.Idx) :
    win1_6.moved (grid1.coords t) j = true ↔ t.val * 8192 + (j 1).val < 1000000 := by
  rw [Window.moved_iff]
  have e0 : win1_6.xsize (grid1.coords t) 0 = 13 := by
    show (Clip.of (win1_6.index t 0) 13 13).extent 13 = 13
    rw [index1_6]; exact clip_rows 13
  have e1 : win1_6.xsize (grid1.coords t) 1 = min 8192 (1000000 - t.val * 8192) := by
    show (Clip.of (win1_6.index t 1) 8192 1000000).extent 8192 = _
    rw [index1_6]; exact clip_cols t.val
  have h0 : (j 0 : ℕ) < 13 := (j 0).isLt
  have h1 : (j 1 : ℕ) < 8192 := (j 1).isLt
  constructor
  · intro h
    have := h 1
    rw [e1] at this; omega
  · intro h a
    match a with
    | ⟨0, _⟩ => exact lt_of_lt_of_eq h0 e0.symm
    | ⟨1, _⟩ => exact lt_of_lt_of_eq (show (j 1 : ℕ) < min 8192 (1000000 - t.val * 8192) by omega) e1.symm

/-- Where an element of a block of window 1_6 sits in the array. -/
theorem emb1_6 (t : Fin cfg1.N) (y : (win1_6.xblock (grid1.coords t)).Idx) :
    (((win1_6.rect t).emb y 0 : Fin _) : ℕ) = (y 0).val ∧ (((win1_6.rect t).emb y 1 : Fin _) : ℕ) = t.val * 8192 + (y 1).val := by
  constructor
  · rw [Window.rect_emb_val win1_6 t y 0 rfl, index1_6]; show 0 * 13 + _ = _; simp
  · rw [Window.rect_emb_val win1_6 t y 1 rfl, index1_6]; rfl

/-! ## Windows whose one block is their array -/

/-- The block of window 0_0 is its whole array. -/
theorem read0_0 {Val : EltTy → Type} (t : Fin cfg0.N) (A : S1.Idx → Val .i32) : (win0_0.blk t).view.read Val A = A := by
  funext y
  show A ((win0_0.rect t).emb y) = A y
  congr 1
  funext a
  refine Fin.ext ?_
  rw [Window.rect_emb_val win0_0 t y a (by rfl)]
  match a with
  | ⟨0, _⟩ => show 0 * _ + _ = _; rw [Nat.zero_mul, Nat.zero_add]

/-- The block of window 0_3 is its whole array. -/
theorem read0_3 {Val : EltTy → Type} (t : Fin cfg0.N) (A : S16x3.Idx → Val .f32) : (win0_3.blk t).view.read Val A = A := by
  funext y
  show A ((win0_3.rect t).emb y) = A y
  congr 1
  funext a
  refine Fin.ext ?_
  rw [Window.rect_emb_val win0_3 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_4 is its whole array. -/
theorem read0_4 {Val : EltTy → Type} (t : Fin cfg0.N) (A : S16x13.Idx → Val .f32) : (win0_4.blk t).view.read Val A = A := by
  funext y
  show A ((win0_4.rect t).emb y) = A y
  congr 1
  funext a
  refine Fin.ext ?_
  rw [Window.rect_emb_val win0_4 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_5 is its whole array. -/
theorem read0_5 {Val : EltTy → Type} (t : Fin cfg0.N) (A : S16x1.Idx → Val .f32) : (win0_5.blk t).view.read Val A = A := by
  funext y
  show A ((win0_5.rect t).emb y) = A y
  congr 1
  funext a
  refine Fin.ext ?_
  rw [Window.rect_emb_val win0_5 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_6 is its whole array. -/
theorem read0_6 {Val : EltTy → Type} (t : Fin cfg0.N) (A : S16x1.Idx → Val .f32) : (win0_6.blk t).view.read Val A = A := by
  funext y
  show A ((win0_6.rect t).emb y) = A y
  congr 1
  funext a
  refine Fin.ext ?_
  rw [Window.rect_emb_val win0_6 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_7 is its whole array. -/
theorem read0_7 {Val : EltTy → Type} (t : Fin cfg0.N) (A : S16x3.Idx → Val .f32) : (win0_7.blk t).view.read Val A = A := by
  funext y
  show A ((win0_7.rect t).emb y) = A y
  congr 1
  funext a
  refine Fin.ext ?_
  rw [Window.rect_emb_val win0_7 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_8 is its whole array. -/
theorem read0_8 {Val : EltTy → Type} (t : Fin cfg0.N) (A : S16x13.Idx → Val .f32) : (win0_8.blk t).view.read Val A = A := by
  funext y
  show A ((win0_8.rect t).emb y) = A y
  congr 1
  funext a
  refine Fin.ext ?_
  rw [Window.rect_emb_val win0_8 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 0_9 is its whole array. -/
theorem read0_9 {Val : EltTy → Type} (t : Fin cfg0.N) (A : S16x1.Idx → Val .f32) : (win0_9.blk t).view.read Val A = A := by
  funext y
  show A ((win0_9.rect t).emb y) = A y
  congr 1
  funext a
  refine Fin.ext ?_
  rw [Window.rect_emb_val win0_9 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 1_2 is its whole array. -/
theorem read1_2 {Val : EltTy → Type} (t : Fin cfg1.N) (A : S16x3.Idx → Val .f32) : (win1_2.blk t).view.read Val A = A := by
  funext y
  show A ((win1_2.rect t).emb y) = A y
  congr 1
  funext a
  refine Fin.ext ?_
  rw [Window.rect_emb_val win1_2 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 1_3 is its whole array. -/
theorem read1_3 {Val : EltTy → Type} (t : Fin cfg1.N) (A : S16x13.Idx → Val .f32) : (win1_3.blk t).view.read Val A = A := by
  funext y
  show A ((win1_3.rect t).emb y) = A y
  congr 1
  funext a
  refine Fin.ext ?_
  rw [Window.rect_emb_val win1_3 t y a (by rfl)]
  match a with
  | ⟨0, _⟩ => show 0 * _ + _ = _; rw [Nat.zero_mul, Nat.zero_add]
  | ⟨1, _⟩ => show 0 * _ + _ = _; rw [Nat.zero_mul, Nat.zero_add]

/-- The block of window 1_4 is its whole array. -/
theorem read1_4 {Val : EltTy → Type} (t : Fin cfg1.N) (A : S16x1.Idx → Val .f32) : (win1_4.blk t).view.read Val A = A := by
  funext y
  show A ((win1_4.rect t).emb y) = A y
  congr 1
  funext a
  refine Fin.ext ?_
  rw [Window.rect_emb_val win1_4 t y a (by rfl)]
  match a with
  | ⟨0, _⟩ => show 0 * _ + _ = _; rw [Nat.zero_mul, Nat.zero_add]
  | ⟨1, _⟩ => show 0 * _ + _ = _; rw [Nat.zero_mul, Nat.zero_add]

end Cert.KernelIdeal.Hand
-- ==== Proof.KernelIdeal.Payload.lean ====
/-
  The kernels' named values read at an index over the extended reals: a column of the projection depends on the same
  column of the two operands alone, so the masked sums of the last block and the columns inside the arrays of every
  result block do not depend on what the staging buffers hold past the arrays' end.
-/
module

public import proofs.«01_k».proof.Proof.KernelIdeal.Geometry

@[expose] public section

set_option maxRecDepth 16384

noncomputable section

namespace Cert.KernelIdeal.Hand

open Cert.KernelIdeal Cert.KernelIdeal.Gen
open Idealize.ShloMosaic

/-- The word of a million. -/
abbrev million : BitVec 32 := 1000000#32

/-- The projection of column `l` onto channel `r`. -/
def proj {n : ℕ} (x : (⟨2, ![3, n]⟩ : Shape).Idx → EReal) (f : (⟨2, ![13, n]⟩ : Shape).Idx → EReal)
    (w3 : S16x3.Idx → EReal) (wf : S16x13.Idx → EReal) (r : Fin 16) (l : Fin n) : EReal :=
  (∑ k : Fin 3, w3 (ix2 r k) * x (ix2 k l)) + ∑ k : Fin 13, wf (ix2 r k) * f (ix2 k l)

theorem pay1_apply (x : Vec Ideal S3x8192 .f32) (f : Vec Ideal S13x8192 .f32) (w3 : Vec Ideal S16x3 .f32) (wf : Vec Ideal S16x13 .f32)
    (r : Fin 16) (l : Fin 8192) : k0_pay1 x f w3 wf (ix2 r l) = proj x f w3 wf r l := by
  pointwise [k0_pay1, proj]

theorem pay2_apply (x : Vec Ideal S3x8192 .f32) (f : Vec Ideal S13x8192 .f32) (w3 : Vec Ideal S16x3 .f32) (wf : Vec Ideal S16x13 .f32)
    (r : Fin 16) (u : Fin 1) : k0_pay2 x f w3 wf (ix2 r u) = ∑ l : Fin 8192, proj x f w3 wf r l := by
  pointwise [k0_pay2, k0_pay1, proj]

theorem pay3_apply (x : Vec Ideal S3x8192 .f32) (f : Vec Ideal S13x8192 .f32) (w3 : Vec Ideal S16x3 .f32) (wf : Vec Ideal S16x13 .f32)
    (r : Fin 16) (u : Fin 1) : k0_pay3 x f w3 wf (ix2 r u) = ∑ l : Fin 8192, proj x f w3 wf r l * proj x f w3 wf r l := by
  pointwise [k0_pay3, k0_pay1, proj]

theorem pay4_apply (x : Vec Ideal S3x8192 .f32) (f : Vec Ideal S13x8192 .f32) (w3 : Vec Ideal S16x3 .f32) (wf : Vec Ideal S16x13 .f32)
    (j : S16x1.Idx) : k0_pay4 x f w3 wf j = k0_pay2 x f w3 wf j := by
  pointwise [k0_pay4]
theorem pay5_apply (x : Vec Ideal S3x8192 .f32) (f : Vec Ideal S13x8192 .f32) (w3 : Vec Ideal S16x3 .f32) (wf : Vec Ideal S16x13 .f32)
    (j : S16x1.Idx) : k0_pay5 x f w3 wf j = k0_pay3 x f w3 wf j := by
  pointwise [k0_pay5]
theorem pay6_apply (x : Vec Ideal S3x8192 .f32) (f : Vec Ideal S13x8192 .f32) (w3 : Vec Ideal S16x3 .f32) (wf : Vec Ideal S16x13 .f32)
    (s : Vec Ideal S16x1 .f32) (j : S16x1.Idx) : k0_pay6 x f w3 wf s j = (s j + k0_pay2 x f w3 wf j : EReal) := by
  pointwise [k0_pay6]
theorem pay7_apply (x : Vec Ideal S3x8192 .f32) (f : Vec Ideal S13x8192 .f32) (w3 : Vec Ideal S16x3 .f32) (wf : Vec Ideal S16x13 .f32)
    (s : Vec Ideal S16x1 .f32) (j : S16x1.Idx) : k0_pay7 x f w3 wf s j = (s j + k0_pay3 x f w3 wf j : EReal) := by
  pointwise [k0_pay7]

/-- The mask of the last block keeps the columns inside the array. -/
theorem pay10_apply (v : FVec Ideal S16x8192 .f32) (r : Fin 16) (l : Fin 8192) :
    k0_pay10 (BitVec.ofNat 32 122) million v (ix2 r l) = if 122 * 8192 + l.val < 1000000 then v (ix2 r l) else (0 : EReal) := by
  pointwise [k0_pay10]
  have e : Scalar.subi million (Scalar.muli 122#32 8192#32) = 576#32 := by decide
  have hl := l.isLt
  have ht : (BitVec.ofNat 32 l.val).toInt = l.val := by
    rw [BitVec.toInt_eq_toNat_of_lt] <;> rw [BitVec.toNat_ofNat] <;> omega
  have hc : IntOp.cmpi CmpIPredicate.slt (BitVec.ofNat 32 l.val) (576#32) = BitVec.ofBool (decide ((l.val : ℤ) < 576)) := by
    show BitVec.ofBool (BitVec.slt _ _) = _
    rw [BitVec.slt, ht]; rfl
  rw [e, hc]
  by_cases h : 999424 + l.val < 1000000
  · rw [if_pos h, decide_eq_true (by omega : (l.val : ℤ) < 576)]; rfl
  · rw [if_neg h, decide_eq_false (by omega : ¬ (l.val : ℤ) < 576)]; rfl

theorem pay15_apply (p : FVec Ideal S16x8192 .f32) (s : Vec Ideal S16x1 .f32) (r : Fin 16) (u : Fin 1) :
    k0_pay15 (BitVec.ofNat 32 122) million p s (ix2 r u)
      = s (ix2 r u) + ∑ l : Fin 8192, (if 122 * 8192 + l.val < 1000000 then p (ix2 r l) else (0 : EReal)) := by
  simp only [← pay10_apply]
  pointwise [k0_pay15, k0_pay11]

theorem pay16_apply (p : FVec Ideal S16x8192 .f32) (s : Vec Ideal S16x1 .f32) (r : Fin 16) (u : Fin 1) :
    k0_pay16 (BitVec.ofNat 32 122) million p s (ix2 r u)
      = s (ix2 r u) + ∑ l : Fin 8192, (if 122 * 8192 + l.val < 1000000 then (p (ix2 r l) * p (ix2 r l) : EReal) else (0 : EReal)) := by
  have h : ∀ l : Fin 8192, (if 122 * 8192 + l.val < 1000000 then (p (ix2 r l) * p (ix2 r l) : EReal) else (0 : EReal))
      = k0_pay10 (BitVec.ofNat 32 122) million p (ix2 r l) * k0_pay10 (BitVec.ofNat 32 122) million p (ix2 r l) := fun l => by
    rw [pay10_apply]; split <;> simp
  simp only [h]
  pointwise [k0_pay16, k0_pay12]

/-- The mean, from the sum. -/
theorem pay18_apply (n : BitVec 32) (s : Vec Ideal S16x1 .f32) (j : S16x1.Idx) :
    k0_pay18 n s j = (Ideal.div (s j) (((BitVec.toInt n : ℝ)) : EReal) : EReal) := by
  pointwise [k0_pay18, k0_pay17]

/-- The scale, from the sums. -/
theorem pay19_apply (n : BitVec 32) (s q g : Vec Ideal S16x1 .f32) (j : S16x1.Idx) :
    k0_pay19 n s q g j = (g j * Ideal.rsqrt (Ideal.div (q j) ((BitVec.toInt n : ℝ) : EReal)
      - k0_pay18 n s j * k0_pay18 n s j + Ideal.ofBits FTy.f32 0x3727C5AC#32) : EReal) := by
  pointwise [k0_pay19, k0_pay17]

theorem pay20_apply (n : BitVec 32) (s q g : Vec Ideal S16x1 .f32) (w3 : Vec Ideal S16x3 .f32) (r : Fin 16) (k : Fin 3) :
    k0_pay20 n s q g w3 (ix2 r k) = (w3 (ix2 r k) * k0_pay19 n s q g (ix2 r 0) : EReal) := by
  pointwise [k0_pay20]

theorem pay8_apply (sc : Vec Ideal S16x1 .f32) (wf : Vec Ideal S16x13 .f32) (r : Fin 16) (k : Fin 13) :
    k0_pay8 sc wf (ix2 r k) = (wf (ix2 r k) * sc (ix2 r 0) : EReal) := by
  pointwise [k0_pay8]

theorem pay9_apply (mean sc b : Vec Ideal S16x1 .f32) (j : S16x1.Idx) :
    k0_pay9 mean sc b j = (b j - mean j * sc j : EReal) := by
  pointwise [k0_pay9]

theorem out1_apply (f : Vec Ideal S13x8192 .f32) (j : S13x8192.Idx) : k1_pay1 f j = f j := by
  pointwise [k1_pay1]

theorem out2_apply (x : Vec Ideal S3x8192 .f32) (f : Vec Ideal S13x8192 .f32) (w3 : Vec Ideal S16x3 .f32) (wf : Vec Ideal S16x13 .f32)
    (sh : Vec Ideal S16x1 .f32) (r : Fin 16) (l : Fin 8192) :
    k1_pay2 x f w3 wf sh (ix2 r l) = max (proj x f w3 wf r l + sh (ix2 r 0)) 0 := by
  pointwise [k1_pay2, k1_pay1, proj]

end Cert.KernelIdeal.Hand
-- ==== Proof.KernelIdeal.Sums.lean ====
/-
  What the two scratch buffers hold from point to point: after `k` points the sums, over the columns of the first `k`
  blocks that lie inside the arrays, of the projections and of their squares — whatever the staging buffers held past
  the arrays' end.
-/
module

public import proofs.«01_k».proof.Proof.KernelIdeal.Payload

@[expose] public section

set_option maxRecDepth 16384

noncomputable section

namespace Cert.KernelIdeal.Hand

open Cert.KernelIdeal Cert.KernelIdeal.Gen
open Idealize.ShloMosaic

variable (X : S3x1000000.Idx → EReal) (Y : S13x1000000.Idx → EReal) (w3 : S16x3.Idx → EReal) (wf : S16x13.Idx → EReal)

/-- The sum of the projections over block `t`'s columns inside the array. -/
def blockS (t : ℕ) (r : Fin 16) : EReal :=
  ∑ l : Fin 8192, if h : t * 8192 + l.val < 1000000 then proj X Y w3 wf r ⟨t * 8192 + l.val, h⟩ else 0
/-- The sum of the projections' squares over block `t`'s columns inside the array. -/
def blockQ (t : ℕ) (r : Fin 16) : EReal :=
  ∑ l : Fin 8192, if h : t * 8192 + l.val < 1000000 then
    proj X Y w3 wf r ⟨t * 8192 + l.val, h⟩ * proj X Y w3 wf r ⟨t * 8192 + l.val, h⟩ else 0
/-- The sums over the first `k` blocks. -/
def sumS (k : ℕ) : S16x1.Idx → EReal := fun j => ∑ t ∈ Finset.range k, blockS X Y w3 wf t (j 0)
def sumQ (k : ℕ) : S16x1.Idx → EReal := fun j => ∑ t ∈ Finset.range k, blockQ X Y w3 wf t (j 0)

/-- The staging buffers of the two operands at point `t` hold their blocks on the columns inside the arrays. -/
def Staged (t : ℕ) (x : S3x8192.Idx → EReal) (f : S13x8192.Idx → EReal) : Prop :=
  (∀ (k : Fin 3) (l : Fin 8192) (h : t * 8192 + l.val < 1000000), x (ix2 k l) = X (ix2 k ⟨t * 8192 + l.val, h⟩))
  ∧ (∀ (k : Fin 13) (l : Fin 8192) (h : t * 8192 + l.val < 1000000), f (ix2 k l) = Y (ix2 k ⟨t * 8192 + l.val, h⟩))

variable {X Y}
variable {t : ℕ} {x : S3x8192.Idx → EReal} {f : S13x8192.Idx → EReal} (hst : Staged X Y t x f)
include hst

theorem proj_staged (r : Fin 16) (l : Fin 8192) (h : t * 8192 + l.val < 1000000) :
    proj x f w3 wf r l = proj X Y w3 wf r ⟨t * 8192 + l.val, h⟩ := by
  unfold proj
  congr 1
  · exact Finset.sum_congr rfl fun k _ => by rw [hst.1 k l h]
  · exact Finset.sum_congr rfl fun k _ => by rw [hst.2 k l h]

/-- A full block's sums. -/
theorem full_S (ht : t < 122) (j : S16x1.Idx) : k0_pay2 (F := Ideal) x f w3 wf j = blockS X Y w3 wf t (j 0) := by
  obtain ⟨a, u, rfl⟩ : ∃ (a : Fin 16) (u : Fin 1), j = ix2 a u := ⟨j 0, j 1, eq_ix2 j⟩
  rw [pay2_apply]
  refine Finset.sum_congr rfl fun l _ => ?_
  have h : t * 8192 + l.val < 1000000 := by have := l.isLt; omega
  rw [dif_pos h, proj_staged w3 wf hst _ _ h]; rfl
theorem full_Q (ht : t < 122) (j : S16x1.Idx) : k0_pay3 (F := Ideal) x f w3 wf j = blockQ X Y w3 wf t (j 0) := by
  obtain ⟨a, u, rfl⟩ : ∃ (a : Fin 16) (u : Fin 1), j = ix2 a u := ⟨j 0, j 1, eq_ix2 j⟩
  rw [pay3_apply]
  refine Finset.sum_congr rfl fun l _ => ?_
  have h : t * 8192 + l.val < 1000000 := by have := l.isLt; omega
  rw [dif_pos h, proj_staged w3 wf hst _ _ h]; rfl

theorem first_S (ht : t = 0) : k0_pay4 (F := Ideal) x f w3 wf = sumS X Y w3 wf 1 := by
  funext j
  rw [pay4_apply, full_S w3 wf hst (by omega)]
  unfold sumS; rw [Finset.sum_range_one, ht]
theorem first_Q (ht : t = 0) : k0_pay5 (F := Ideal) x f w3 wf = sumQ X Y w3 wf 1 := by
  funext j
  rw [pay5_apply, full_Q w3 wf hst (by omega)]
  unfold sumQ; rw [Finset.sum_range_one, ht]

theorem inner_S (ht : t < 122) : k0_pay6 (F := Ideal) x f w3 wf (sumS X Y w3 wf t) = sumS X Y w3 wf (t + 1) := by
  funext j
  rw [pay6_apply, full_S w3 wf hst ht]
  unfold sumS; rw [Finset.sum_range_succ]
theorem inner_Q (ht : t < 122) : k0_pay7 (F := Ideal) x f w3 wf (sumQ X Y w3 wf t) = sumQ X Y w3 wf (t + 1) := by
  funext j
  rw [pay7_apply, full_Q w3 wf hst ht]
  unfold sumQ; rw [Finset.sum_range_succ]

theorem last_S (i : grid0.Coords) (hi : (i 0).val = 122) (ht : t = 122) :
    lastS (F := Ideal) i million x f w3 wf (sumS X Y w3 wf 122) = sumS X Y w3 wf 123 := by
  subst ht
  funext j
  obtain ⟨a, u, rfl⟩ : ∃ (a : Fin 16) (u : Fin 1), j = ix2 a u := ⟨j 0, j 1, eq_ix2 j⟩
  unfold lastS
  rw [hi, pay15_apply]
  unfold sumS; rw [Finset.sum_range_succ _ 122]
  congr 1
  refine Finset.sum_congr rfl fun l _ => ?_
  by_cases h : 122 * 8192 + l.val < 1000000
  · rw [if_pos h, dif_pos h, pay1_apply, proj_staged w3 wf hst _ _ h]; rfl
  · rw [if_neg h, dif_neg h]
theorem last_Q (i : grid0.Coords) (hi : (i 0).val = 122) (ht : t = 122) :
    lastQ (F := Ideal) i million x f w3 wf (sumQ X Y w3 wf 122) = sumQ X Y w3 wf 123 := by
  subst ht
  funext j
  obtain ⟨a, u, rfl⟩ : ∃ (a : Fin 16) (u : Fin 1), j = ix2 a u := ⟨j 0, j 1, eq_ix2 j⟩
  unfold lastQ
  rw [hi, pay16_apply]
  unfold sumQ; rw [Finset.sum_range_succ _ 122]
  congr 1
  refine Finset.sum_congr rfl fun l _ => ?_
  by_cases h : 122 * 8192 + l.val < 1000000
  · rw [if_pos h, dif_pos h, pay1_apply, proj_staged w3 wf hst _ _ h]; rfl
  · rw [if_neg h, dif_neg h]

end Cert.KernelIdeal.Hand
-- ==== Proof.KernelIdeal.Region0.lean ====
/-
  The accumulating pipeline's proof data and its body obligation, from any contents of the arrays at entry whose count
  is a million: between the points the two scratch buffers hold the sums over the blocks so far, and at the last point
  the three results' buffers are filled from them.
-/
module

public import proofs.«01_k».proof.Proof.KernelIdeal.Sums
public import Idealize.ShloMosaic.Lib.Pipeline.RegionArraysS

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation BodyObligationLoose)

local notation "𝕄" => MT nD τ sig Unit (Elt Ideal) ℕ (UR sig nD τ) ℕ

/-- A buffer of the core held whole at contents nothing names. -/
abbrev some_ (c : Dev nD) (b : Ref sig .tc) : sProp 𝕄 :=
  iprop(∃ f : Buf (Elt Ideal) ((c : Thread nD τ).loc b), ((c : Thread nD τ).loc b) ↦{fullShare} f)

/-- The scoped buffers the accumulating kernel uses neither as a staging buffer nor as a scratch buffer. -/
def rest0 (c : Dev nD) : sProp 𝕄 :=
  iprop(some_ c cc1_stg0_0 ∗ some_ c cc1_stg0_1 ∗ some_ c cc1_stg1_0 ∗ some_ c cc1_stg1_1 ∗ some_ c cc1_stg2_0 ∗ some_ c cc1_stg3_0 ∗ some_ c cc1_stg4_0 ∗ some_ c cc1_stg5_0 ∗ some_ c cc1_stg5_1 ∗ some_ c cc1_stg6_0 ∗ some_ c cc1_stg6_1)

theorem rest0_split (c : Dev nD) :
    (Pipeline.scopedRest (Ix := Unit) (Name := ℕ) (U := UR sig nD τ) (Lvl := ℕ) (Val := Elt Ideal) spec0 c : sProp 𝕄)
      = iprop(some_ c cc0_scratch0 ∗ some_ c cc0_scratch1 ∗ rest0 c) :=
  scopedRest0_eq c

/-! ## The proof data -/

variable (V : Dev nD → Valuation τ sig (Elt Ideal))

abbrev inX (c : Dev nD) : S3x1000000.Idx → EReal := V c (Proc.devRef .tc main_v0)
abbrev inF (c : Dev nD) : S13x1000000.Idx → EReal := V c (Proc.devRef .tc main_v1)
abbrev inW3 (c : Dev nD) : S16x3.Idx → EReal := V c (Proc.devRef .tc main_v2)
abbrev inWf (c : Dev nD) : S16x13.Idx → EReal := V c (Proc.devRef .tc main_v3)
abbrev inG (c : Dev nD) : S16x1.Idx → EReal := V c (Proc.devRef .tc main_v4)
abbrev inB (c : Dev nD) : S16x1.Idx → EReal := V c (Proc.devRef .tc main_v5)

/-- The sums after `k` points. -/
abbrev accS (c : Dev nD) (k : ℕ) : S16x1.Idx → EReal := sumS (inX V c) (inF V c) (inW3 V c) (inWf V c) k
abbrev accQ (c : Dev nD) (k : ℕ) : S16x1.Idx → EReal := sumQ (inX V c) (inF V c) (inW3 V c) (inWf V c) k

/-- The three results. -/
def outW3 (c : Dev nD) : S16x3.Idx → EReal := k0_pay20 (F := Ideal) million (accS V c 123) (accQ V c 123) (inG V c) (inW3 V c)
def outWf (c : Dev nD) : S16x13.Idx → EReal :=
  k0_pay8 (F := Ideal) (k0_pay19 million (accS V c 123) (accQ V c 123) (inG V c)) (inWf V c)
def outSh (c : Dev nD) : S16x1.Idx → EReal :=
  k0_pay9 (F := Ideal) (k0_pay18 million (accS V c 123)) (k0_pay19 million (accS V c 123) (accQ V c 123) (inG V c)) (inB V c)

/-- Before point `n` the scratch buffers hold the sums over the first `n` blocks, and anything before the first. -/
def Phi0 (c : Dev nD) (n : ℕ) : sProp 𝕄 :=
  iprop(∃ s q : S16x1.Idx → EReal, ⌜n ≠ 0 → s = accS V c n ∧ q = accQ V c n⌝
    ∗ owns (c : Thread nD τ) (Memref.whole cc0_scratch0) fullShare (s : S16x1.Idx → Elt Ideal .f32)
    ∗ owns (c : Thread nD τ) (Memref.whole cc0_scratch1) fullShare (q : S16x1.Idx → Elt Ideal .f32) ∗ rest0 c)

/-- A staging buffer's contents after a fetch, zero past the array's end. -/
def stX (c : Dev nD) (t : Fin cfg0.N) : S3x8192.Idx → EReal :=
  win0_1.fill (grid0.coords t) (fun _ => (0 : EReal)) ((win0_1.blk t).view.read (Elt Ideal) (inX V c))
def stF (c : Dev nD) (t : Fin cfg0.N) : S13x8192.Idx → EReal :=
  win0_2.fill (grid0.coords t) (fun _ => (0 : EReal)) ((win0_2.blk t).view.read (Elt Ideal) (inF V c))

/-- The proof data: the arrays at `V`, the inputs' buffers at their blocks, the results' at the folded weights and shift. -/
def dat0 (c : Dev nD) : Dat τ (Elt Ideal) Unit ℕ (UR sig nD τ) ℕ cfg0 c where
  A w := V c (Proc.devRef .tc (Pipeline.arrRef spec0 w))
  after w t := match w with
    | ⟨0, _⟩ => (V c (Proc.devRef .tc main_v6) : S1.Idx → Elt Ideal .i32)
    | ⟨1, _⟩ => stX V c t
    | ⟨2, _⟩ => stF V c t
    | ⟨3, _⟩ => inW3 V c
    | ⟨4, _⟩ => inWf V c
    | ⟨5, _⟩ => inG V c
    | ⟨6, _⟩ => inB V c
    | ⟨7, _⟩ => outW3 V c
    | ⟨8, _⟩ => outWf V c
    | ⟨9, _⟩ => outSh V c
  Φ t := Phi0 V c t.val
  q _ := fullShare
  owed _ := 0

/-! ## What the body finds -/

theorem before0_1 (c : Dev nD) (t : Fin cfg0.N) (d) :
    (dat0 V c).before (1 : Fin 10) t d = win0_1.fill (grid0.coords t) d ((win0_1.blk t).view.read (Elt Ideal) (inX V c)) := by
  unfold Dat.before; rw [if_pos (fetch0_1 t)]; rfl
theorem before0_2 (c : Dev nD) (t : Fin cfg0.N) (d) :
    (dat0 V c).before (2 : Fin 10) t d = win0_2.fill (grid0.coords t) d ((win0_2.blk t).view.read (Elt Ideal) (inF V c)) := by
  unfold Dat.before; rw [if_pos (fetch0_2 t)]; rfl
theorem before0_0 (c : Dev nD) (t : Fin cfg0.N) (d) : (dat0 V c).before (0 : Fin 10) t d = (V c (Proc.devRef .tc main_v6) : S1.Idx → Elt Ideal .i32) := by
  rw [(dat0 V c).before_in_eq_fetched (0 : Fin 10) rfl (fun _ => rfl) (fun _ _ _ => rfl) (fun t => ?_) t d]
  · exact read0_0 (Val := Elt Ideal) t ((V c (Proc.devRef .tc main_v6) : S1.Idx → Elt Ideal .i32))
  · exact (read0_0 (Val := Elt Ideal) t ((V c (Proc.devRef .tc main_v6) : S1.Idx → Elt Ideal .i32))).symm
theorem before0_3 (c : Dev nD) (t : Fin cfg0.N) (d) : (dat0 V c).before (3 : Fin 10) t d = inW3 V c := by
  rw [(dat0 V c).before_in_eq_fetched (3 : Fin 10) rfl (fun _ => rfl) (fun _ _ _ => rfl) (fun t => ?_) t d]
  · exact read0_3 (Val := Elt Ideal) t (inW3 V c)
  · exact (read0_3 (Val := Elt Ideal) t (inW3 V c)).symm
theorem before0_4 (c : Dev nD) (t : Fin cfg0.N) (d) : (dat0 V c).before (4 : Fin 10) t d = inWf V c := by
  rw [(dat0 V c).before_in_eq_fetched (4 : Fin 10) rfl (fun _ => rfl) (fun _ _ _ => rfl) (fun t => ?_) t d]
  · exact read0_4 (Val := Elt Ideal) t (inWf V c)
  · exact (read0_4 (Val := Elt Ideal) t (inWf V c)).symm
theorem before0_5 (c : Dev nD) (t : Fin cfg0.N) (d) : (dat0 V c).before (5 : Fin 10) t d = inG V c := by
  rw [(dat0 V c).before_in_eq_fetched (5 : Fin 10) rfl (fun _ => rfl) (fun _ _ _ => rfl) (fun t => ?_) t d]
  · exact read0_5 (Val := Elt Ideal) t (inG V c)
  · exact (read0_5 (Val := Elt Ideal) t (inG V c)).symm
theorem before0_6 (c : Dev nD) (t : Fin cfg0.N) (d) : (dat0 V c).before (6 : Fin 10) t d = inB V c := by
  rw [(dat0 V c).before_in_eq_fetched (6 : Fin 10) rfl (fun _ => rfl) (fun _ _ _ => rfl) (fun t => ?_) t d]
  · exact read0_6 (Val := Elt Ideal) t (inB V c)
  · exact (read0_6 (Val := Elt Ideal) t (inB V c)).symm

/-- The two operands' buffers hold their blocks. -/
theorem staged0 (c : Dev nD) (t : Fin cfg0.N) (d1 : S3x8192.Idx → Elt Ideal .f32) (d2 : S13x8192.Idx → Elt Ideal .f32) :
    Staged (inX V c) (inF V c) t.val
      (win0_1.fill (grid0.coords t) d1 ((win0_1.blk t).view.read (Elt Ideal) (inX V c)))
      (win0_2.fill (grid0.coords t) d2 ((win0_2.blk t).view.read (Elt Ideal) (inF V c))) :=
  ⟨fun k l h => (fill0_1 t (inX V c) d1 (ix2 k l)).trans (dif_pos h), fun k l h => (fill0_2 t (inF V c) d2 (ix2 k l)).trans (dif_pos h)⟩

/-! ## Windows left by the body -/

section Leaves
variable {cfg : Cfg sig Λ₀} {c : Dev nD} (dat : Dat τ (Elt Ideal) Unit ℕ (UR sig nD τ) ℕ cfg c)

theorem leaves_exact (w : Fin cfg.W) (t : Fin cfg.N) (hi : cfg.idle w (cfg.grid.coords t) = false) (hl : cfg.loose w = false) :
    owns c ((cfg.win w).stage (cfg.slots t w)) fullShare (dat.after w t) ⊢ (dat.leaves w t : sProp 𝕄) := by
  unfold Dat.leaves; rw [hi, hl]; try exact .rfl
theorem leaves_loose (w : Fin cfg.W) (t : Fin cfg.N) (hi : cfg.idle w (cfg.grid.coords t) = false) (hl : cfg.loose w = true)
    (X : (cfg.win w).block.Idx → Elt Ideal (cfg.win w).elt)
    (hX : (cfg.win w).cut (cfg.grid.coords t) X = (cfg.win w).cut (cfg.grid.coords t) (dat.after w t)) :
    owns c ((cfg.win w).stage (cfg.slots t w)) fullShare X ⊢ (dat.leaves w t : sProp 𝕄) := by
  unfold Dat.leaves; rw [hi, hl]
  show _ ⊢ iprop(∃ d, owns (c : Thread nD τ) ((cfg.win w).stage (cfg.slots t w)) fullShare ((cfg.win w).fill (cfg.grid.coords t) d ((cfg.win w).cut (cfg.grid.coords t) (dat.after w t))))
  rw [← hX]
  iintro H; iexists X; rw [(cfg.win w).fill_cut]; iexact H
end Leaves

/-! ## The body obligation -/

theorem idle0_at (t : Fin cfg0.N) (h : t.val ≠ 122) (w : Fin 10) (hw : w = 7 ∨ w = 8 ∨ w = 9) :
    cfg0.idle w (cfg0.grid.coords t) = true := by
  have : (k0_cond4 (grid0.coords t) == 1#1) = false := by
    rw [beq_eq_false_iff_ne]; intro e; exact h ((coord0 t).symm.trans ((cond4_iff _).mp e))
  rcases hw with rfl | rfl | rfl <;> (show (!(k0_cond4 (grid0.coords t) == 1#1)) = true; rw [this]; rfl)
theorem live0_at (t : Fin cfg0.N) (h : t.val = 122) (w : Fin 10) : cfg0.idle w (cfg0.grid.coords t) = false := by
  have : (k0_cond4 (grid0.coords t) == 1#1) = true := by
    rw [beq_iff_eq]; exact (cond4_iff _).mpr ((coord0 t).trans h)
  match w with
  | 0 | 1 | 2 | 3 | 4 | 5 | 6 => rfl
  | 7 | 8 | 9 => show (!(k0_cond4 (grid0.coords t) == 1#1)) = false; rw [this]; rfl

theorem noflush0 (t : Fin cfg0.N) (h : t.val ≠ 122) (w : Fin 10) (hw : w = 7 ∨ w = 8 ∨ w = 9) :
    (cfg0.win w).flush t = false := by
  have hn : ¬ t.val % 123 = 122 := by have := lt0 t; omega
  rcases hw with rfl | rfl | rfl <;> rw [Bool.eq_false_iff] <;> intro e
  · exact hn ((flush0_7 t).mp e)
  · exact hn ((flush0_8 t).mp e)
  · exact hn ((flush0_9 t).mp e)

theorem body0 (c : Dev nD) (hn : (V c (Proc.devRef .tc main_v6) : S1.Idx → Elt Ideal .i32) = fun _ => million) :
    BodyObligationLoose (dat0 V c) (defs₀ (F := Ideal)) 𝒱₀ () Set.univ := fun t => by
  show iprop(Phi0 V c t.val ∗ (dat0 V c).owesAt () t.castSucc ∗ bigSep Finset.univ fun w : Fin 10 =>
        iprop(∃ d, owns (c : Thread nD τ) ((cfg0.win w).stage (cfg0.slots t w)) fullShare ((dat0 V c).before w t d)))
      ⊢ wp frame (wpE (defs₀ (F := Ideal)) 𝒱₀ (c : Thread nD τ) none) Set.univ (bodyAt0 (F := Ideal) t) fun _ =>
          iprop(Phi0 V c (t.val + 1) ∗ (dat0 V c).owesAt () t.succ ∗ bigSep Finset.univ fun w : Fin 10 => (dat0 V c).leaves w t)
  rw [bigSep_W0, bigSep_W0, show (dat0 V c).owesAt () t.succ = (dat0 V c).owesAt () t.castSucc from rfl]
  have hcut1 : ∀ d, win0_1.cut (grid0.coords t) (win0_1.fill (grid0.coords t) d ((win0_1.blk t).view.read (Elt Ideal) (inX V c)))
      = win0_1.cut (grid0.coords t) ((dat0 V c).after (1 : Fin 10) t) := fun d => by
    show _ = win0_1.cut (grid0.coords t) (stX V c t)
    unfold stX; rw [win0_1.cut_fill, win0_1.cut_fill]
  have hcut2 : ∀ d, win0_2.cut (grid0.coords t) (win0_2.fill (grid0.coords t) d ((win0_2.blk t).view.read (Elt Ideal) (inF V c)))
      = win0_2.cut (grid0.coords t) ((dat0 V c).after (2 : Fin 10) t) := fun d => by
    show _ = win0_2.cut (grid0.coords t) (stF V c t)
    unfold stF; rw [win0_2.cut_fill, win0_2.cut_fill]
  iintro ⟨HΦ, Ho, ⟨%d0, H0⟩, ⟨%d1, H1⟩, ⟨%d2, H2⟩, ⟨%d3, H3⟩, ⟨%d4, H4⟩, ⟨%d5, H5⟩, ⟨%d6, H6⟩, H7, H8, H9⟩
  rw [before0_0, before0_1, before0_2, before0_3, before0_4, before0_5, before0_6, hn]
  unfold Phi0
  icases HΦ with ⟨%s, %q, %hs, Hs, Hq, Hr⟩
  have hst := staged0 V c t d1 d2
  have hN := lt0 t
  by_cases h0 : t.val = 0
  · have hl : t.val ≠ 122 := by omega
    iapply (sound_first (F := Ideal) c Set.univ (grid0.coords t) ((coord0 t).trans h0) _ _ _ _ _ _ _ _ _ _ _ _ _ _ _ _ _ _ _ _ _ _ _ _ million (win0_1.fill (grid0.coords t) d1 ((win0_1.blk t).view.read (Elt Ideal) (inX V c))) (win0_2.fill (grid0.coords t) d2 ((win0_2.blk t).view.read (Elt Ideal) (inF V c))) (inW3 V c) (inWf V c) s q _)
    isplitl [H0 H1 H2 H3 H4 Hs Hq]
    · isplitl [H0]; · iexact H0
      isplitl [H1]; · iexact H1
      isplitl [H2]; · iexact H2
      isplitl [H3]; · iexact H3
      isplitl [H4]; · iexact H4
      isplitl [Hs]; · iexact Hs
      iexact Hq
    iintro ⟨H0, H1, H2, H3, H4, Hs, Hq⟩
    have eS : k0_pay4 (F := Ideal) (win0_1.fill (grid0.coords t) d1 ((win0_1.blk t).view.read (Elt Ideal) (inX V c))) (win0_2.fill (grid0.coords t) d2 ((win0_2.blk t).view.read (Elt Ideal) (inF V c))) (inW3 V c) (inWf V c) = accS V c (t.val + 1) := (first_S (inW3 V c) (inWf V c) hst h0).trans (congrArg (accS V c) (show 1 = t.val + 1 by omega))
    have eQ : k0_pay5 (F := Ideal) (win0_1.fill (grid0.coords t) d1 ((win0_1.blk t).view.read (Elt Ideal) (inX V c))) (win0_2.fill (grid0.coords t) d2 ((win0_2.blk t).view.read (Elt Ideal) (inF V c))) (inW3 V c) (inWf V c) = accQ V c (t.val + 1) := (first_Q (inW3 V c) (inWf V c) hst h0).trans (congrArg (accQ V c) (show 1 = t.val + 1 by omega))
    rw [eS, eQ]
    isplitl [Hs Hq Hr]
    · iexists accS V c (t.val + 1), accQ V c (t.val + 1)
      isplitr
      · ipureintro; intro _; exact ⟨rfl, rfl⟩
      isplitl [Hs]
      · iexact Hs
      isplitl [Hq]
      · iexact Hq
      iexact Hr
    isplitl [Ho]; · iexact Ho
    isplitl [H0]
    · iapply (leaves_exact (dat0 V c) (0 : Fin 10) t rfl rfl); show _ ⊢ owns (c : Thread nD τ) _ fullShare (V c (Proc.devRef .tc main_v6) : S1.Idx → Elt Ideal .i32); rw [hn]; try exact .rfl
    isplitl [H1]
    · iapply (leaves_loose (dat0 V c) (1 : Fin 10) t rfl rfl _ (hcut1 d1)); iexact H1
    isplitl [H2]
    · iapply (leaves_loose (dat0 V c) (2 : Fin 10) t rfl rfl _ (hcut2 d2)); iexact H2
    isplitl [H3]
    · iapply (leaves_exact (dat0 V c) (3 : Fin 10) t rfl rfl); iexact H3
    isplitl [H4]
    · iapply (leaves_exact (dat0 V c) (4 : Fin 10) t rfl rfl); iexact H4
    isplitl [H5]
    · iapply (leaves_exact (dat0 V c) (5 : Fin 10) t rfl rfl); iexact H5
    isplitl [H6]
    · iapply (leaves_exact (dat0 V c) (6 : Fin 10) t rfl rfl); iexact H6
    isplitl [H7]
    · rw [(dat0 V c).leaves_idle (7 : Fin 10) t (idle0_at t hl 7 (by decide)) (noflush0 t hl 7 (by decide))]; iexact H7
    isplitl [H8]
    · rw [(dat0 V c).leaves_idle (8 : Fin 10) t (idle0_at t hl 8 (by decide)) (noflush0 t hl 8 (by decide))]; iexact H8
    rw [(dat0 V c).leaves_idle (9 : Fin 10) t (idle0_at t hl 9 (by decide)) (noflush0 t hl 9 (by decide))]; iexact H9
  by_cases hl : t.val ≠ 122
  · obtain ⟨rfl, rfl⟩ := hs h0
    iapply (sound_inner (F := Ideal) c Set.univ (grid0.coords t) (fun e => h0 ((coord0 t).symm.trans e)) (fun e => hl ((coord0 t).symm.trans e)) _ _ _ _ _ _ _ _ _ _ _ _ _ _ _ _ _ _ _ _ _ _ _ _ million (win0_1.fill (grid0.coords t) d1 ((win0_1.blk t).view.read (Elt Ideal) (inX V c))) (win0_2.fill (grid0.coords t) d2 ((win0_2.blk t).view.read (Elt Ideal) (inF V c))) (inW3 V c) (inWf V c) (accS V c t.val) (accQ V c t.val) _)
    isplitl [H0 H1 H2 H3 H4 Hs Hq]
    · isplitl [H0]; · iexact H0
      isplitl [H1]; · iexact H1
      isplitl [H2]; · iexact H2
      isplitl [H3]; · iexact H3
      isplitl [H4]; · iexact H4
      isplitl [Hs]; · iexact Hs
      iexact Hq
    iintro ⟨H0, H1, H2, H3, H4, Hs, Hq⟩
    have eS : k0_pay6 (F := Ideal) (win0_1.fill (grid0.coords t) d1 ((win0_1.blk t).view.read (Elt Ideal) (inX V c))) (win0_2.fill (grid0.coords t) d2 ((win0_2.blk t).view.read (Elt Ideal) (inF V c))) (inW3 V c) (inWf V c) (accS V c t.val) = accS V c (t.val + 1) := inner_S (inW3 V c) (inWf V c) hst (by omega)
    have eQ : k0_pay7 (F := Ideal) (win0_1.fill (grid0.coords t) d1 ((win0_1.blk t).view.read (Elt Ideal) (inX V c))) (win0_2.fill (grid0.coords t) d2 ((win0_2.blk t).view.read (Elt Ideal) (inF V c))) (inW3 V c) (inWf V c) (accQ V c t.val) = accQ V c (t.val + 1) := inner_Q (inW3 V c) (inWf V c) hst (by omega)
    rw [eS, eQ]
    isplitl [Hs Hq Hr]
    · iexists accS V c (t.val + 1), accQ V c (t.val + 1)
      isplitr
      · ipureintro; intro _; exact ⟨rfl, rfl⟩
      isplitl [Hs]
      · iexact Hs
      isplitl [Hq]
      · iexact Hq
      iexact Hr
    isplitl [Ho]; · iexact Ho
    isplitl [H0]
    · iapply (leaves_exact (dat0 V c) (0 : Fin 10) t rfl rfl); show _ ⊢ owns (c : Thread nD τ) _ fullShare (V c (Proc.devRef .tc main_v6) : S1.Idx → Elt Ideal .i32); rw [hn]; try exact .rfl
    isplitl [H1]
    · iapply (leaves_loose (dat0 V c) (1 : Fin 10) t rfl rfl _ (hcut1 d1)); iexact H1
    isplitl [H2]
    · iapply (leaves_loose (dat0 V c) (2 : Fin 10) t rfl rfl _ (hcut2 d2)); iexact H2
    isplitl [H3]
    · iapply (leaves_exact (dat0 V c) (3 : Fin 10) t rfl rfl); iexact H3
    isplitl [H4]
    · iapply (leaves_exact (dat0 V c) (4 : Fin 10) t rfl rfl); iexact H4
    isplitl [H5]
    · iapply (leaves_exact (dat0 V c) (5 : Fin 10) t rfl rfl); iexact H5
    isplitl [H6]
    · iapply (leaves_exact (dat0 V c) (6 : Fin 10) t rfl rfl); iexact H6
    isplitl [H7]
    · rw [(dat0 V c).leaves_idle (7 : Fin 10) t (idle0_at t hl 7 (by decide)) (noflush0 t hl 7 (by decide))]; iexact H7
    isplitl [H8]
    · rw [(dat0 V c).leaves_idle (8 : Fin 10) t (idle0_at t hl 8 (by decide)) (noflush0 t hl 8 (by decide))]; iexact H8
    rw [(dat0 V c).leaves_idle (9 : Fin 10) t (idle0_at t hl 9 (by decide)) (noflush0 t hl 9 (by decide))]; iexact H9
  · have ht : t.val = 122 := not_not.mp hl
    obtain ⟨rfl, rfl⟩ := hs h0
    icases H7 with ⟨%d7, H7⟩; icases H8 with ⟨%d8, H8⟩; icases H9 with ⟨%d9, H9⟩
    iapply (sound_last (F := Ideal) c Set.univ (grid0.coords t) ((coord0 t).trans ht) _ _ _ _ _ _ _ _ _ _ _ _ _ _ _ _ _ _ _ _ _ _ _ _ million (win0_1.fill (grid0.coords t) d1 ((win0_1.blk t).view.read (Elt Ideal) (inX V c))) (win0_2.fill (grid0.coords t) d2 ((win0_2.blk t).view.read (Elt Ideal) (inF V c))) (inW3 V c) (inWf V c) (inG V c) (inB V c) _ _ _ (accS V c t.val) (accQ V c t.val) _)
    isplitl [H0 H1 H2 H3 H4 H5 H6 H7 H8 H9 Hs Hq]
    · isplitl [H0]; · iexact H0
      isplitl [H1]; · iexact H1
      isplitl [H2]; · iexact H2
      isplitl [H3]; · iexact H3
      isplitl [H4]; · iexact H4
      isplitl [H5]; · iexact H5
      isplitl [H6]; · iexact H6
      isplitl [H7]; · iexact H7
      isplitl [H8]; · iexact H8
      isplitl [H9]; · iexact H9
      isplitl [Hs]; · iexact Hs
      iexact Hq
    iintro ⟨H0, H1, H2, H3, H4, H5, H6, H7, H8, H9, Hs, Hq⟩
    have eS : lastS (F := Ideal) (grid0.coords t) million (win0_1.fill (grid0.coords t) d1 ((win0_1.blk t).view.read (Elt Ideal) (inX V c))) (win0_2.fill (grid0.coords t) d2 ((win0_2.blk t).view.read (Elt Ideal) (inF V c))) (inW3 V c) (inWf V c) (accS V c t.val) = accS V c 123 := by
      have := last_S (inW3 V c) (inWf V c) hst (grid0.coords t) ((coord0 t).trans ht) ht
      rw [ht]; exact this
    have eQ : lastQ (F := Ideal) (grid0.coords t) million (win0_1.fill (grid0.coords t) d1 ((win0_1.blk t).view.read (Elt Ideal) (inX V c))) (win0_2.fill (grid0.coords t) d2 ((win0_2.blk t).view.read (Elt Ideal) (inF V c))) (inW3 V c) (inWf V c) (accQ V c t.val) = accQ V c 123 := by
      have := last_Q (inW3 V c) (inWf V c) hst (grid0.coords t) ((coord0 t).trans ht) ht
      rw [ht]; exact this
    rw [eS, eQ]
    rw [show t.val + 1 = 123 by omega]
    isplitl [Hs Hq Hr]
    · iexists accS V c 123, accQ V c 123
      isplitr
      · ipureintro; intro _; exact ⟨rfl, rfl⟩
      isplitl [Hs]
      · iexact Hs
      isplitl [Hq]
      · iexact Hq
      iexact Hr
    isplitl [Ho]; · iexact Ho
    isplitl [H0]
    · iapply (leaves_exact (dat0 V c) (0 : Fin 10) t rfl rfl); show _ ⊢ owns (c : Thread nD τ) _ fullShare (V c (Proc.devRef .tc main_v6) : S1.Idx → Elt Ideal .i32); rw [hn]; try exact .rfl
    isplitl [H1]
    · iapply (leaves_loose (dat0 V c) (1 : Fin 10) t rfl rfl _ (hcut1 d1)); iexact H1
    isplitl [H2]
    · iapply (leaves_loose (dat0 V c) (2 : Fin 10) t rfl rfl _ (hcut2 d2)); iexact H2
    isplitl [H3]
    · iapply (leaves_exact (dat0 V c) (3 : Fin 10) t rfl rfl); iexact H3
    isplitl [H4]
    · iapply (leaves_exact (dat0 V c) (4 : Fin 10) t rfl rfl); iexact H4
    isplitl [H5]
    · iapply (leaves_exact (dat0 V c) (5 : Fin 10) t rfl rfl); iexact H5
    isplitl [H6]
    · iapply (leaves_exact (dat0 V c) (6 : Fin 10) t rfl rfl); iexact H6
    isplitl [H7]
    · iapply (leaves_exact (dat0 V c) (7 : Fin 10) t (live0_at t ht 7) rfl); iexact H7
    isplitl [H8]
    · iapply (leaves_exact (dat0 V c) (8 : Fin 10) t (live0_at t ht 8) rfl); iexact H8
    iapply (leaves_exact (dat0 V c) (9 : Fin 10) t (live0_at t ht 9) rfl); iexact H9

end Cert.KernelIdeal.Hand
-- ==== Proof.KernelIdeal.Region1.lean ====
/-
  The second pipeline's proof data and its body obligation, from any contents of the arrays at entry: every point leaves
  the results' buffers at the activations and at the features of its block's columns, on the columns inside the arrays.
-/
module

public import proofs.«01_k».proof.Proof.KernelIdeal.Region0

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Clip BodyObligation BodyObligationLoose)

local notation "𝕄" => MT nD τ sig Unit (Elt Ideal) ℕ (UR sig nD τ) ℕ

variable (V : Dev nD → Valuation τ sig (Elt Ideal))

abbrev inWs3 (c : Dev nD) : S16x3.Idx → EReal := V c (Proc.devRef .tc main_v7_0)
abbrev inWsf (c : Dev nD) : S16x13.Idx → EReal := V c (Proc.devRef .tc main_v7_1)
abbrev inSh (c : Dev nD) : S16x1.Idx → EReal := V c (Proc.devRef .tc main_v7_2)

/-- The activations. -/
def outY (c : Dev nD) : S16x1000000.Idx → EReal := fun j =>
  max (proj (inX V c) (inF V c) (inWs3 V c) (inWsf V c) (j 0) (j 1) + inSh V c (ix2 (j 0) 0)) 0

/-- Staging buffers' contents, zero past the array's end. -/
def stX1 (c : Dev nD) (t : Fin cfg1.N) : S3x8192.Idx → EReal :=
  win1_0.fill (grid1.coords t) (fun _ => (0 : EReal)) ((win1_0.blk t).view.read (Elt Ideal) (inX V c))
def stF1 (c : Dev nD) (t : Fin cfg1.N) : S13x8192.Idx → EReal :=
  win1_1.fill (grid1.coords t) (fun _ => (0 : EReal)) ((win1_1.blk t).view.read (Elt Ideal) (inF V c))
def stY1 (c : Dev nD) (t : Fin cfg1.N) : S16x8192.Idx → EReal :=
  win1_5.fill (grid1.coords t) (fun _ => (0 : EReal)) ((win1_5.blk t).view.read (Elt Ideal) (outY V c))
def stV1 (c : Dev nD) (t : Fin cfg1.N) : S13x8192.Idx → EReal :=
  win1_6.fill (grid1.coords t) (fun _ => (0 : EReal)) ((win1_6.blk t).view.read (Elt Ideal) (inF V c))

/-- The proof data. -/
def dat1 (c : Dev nD) : Dat τ (Elt Ideal) Unit ℕ (UR sig nD τ) ℕ cfg1 c where
  A w := V c (Proc.devRef .tc (Pipeline.arrRef spec1 w))
  after w t := match w with
    | ⟨0, _⟩ => stX1 V c t
    | ⟨1, _⟩ => stF1 V c t
    | ⟨2, _⟩ => inWs3 V c
    | ⟨3, _⟩ => inWsf V c
    | ⟨4, _⟩ => inSh V c
    | ⟨5, _⟩ => stY1 V c t
    | ⟨6, _⟩ => stV1 V c t
  Φ _ := Pipeline.scopedRest (Ix := Unit) (Name := ℕ) (U := UR sig nD τ) (Lvl := ℕ) (Val := Elt Ideal) spec1 c
  q _ := fullShare
  owed _ := 0

/-! ## What the body finds -/

theorem before1_0 (c : Dev nD) (t : Fin cfg1.N) (d) :
    (dat1 V c).before (0 : Fin 7) t d = win1_0.fill (grid1.coords t) d ((win1_0.blk t).view.read (Elt Ideal) (inX V c)) := by
  unfold Dat.before; rw [if_pos (fetch1_0 t)]; rfl
theorem before1_1 (c : Dev nD) (t : Fin cfg1.N) (d) :
    (dat1 V c).before (1 : Fin 7) t d = win1_1.fill (grid1.coords t) d ((win1_1.blk t).view.read (Elt Ideal) (inF V c)) := by
  unfold Dat.before; rw [if_pos (fetch1_1 t)]; rfl
theorem before1_2 (c : Dev nD) (t : Fin cfg1.N) (d) : (dat1 V c).before (2 : Fin 7) t d = inWs3 V c := by
  rw [(dat1 V c).before_in_eq_fetched (2 : Fin 7) rfl (fun _ => rfl) (fun _ _ _ => rfl) (fun t => ?_) t d]
  · exact read1_2 (Val := Elt Ideal) t (inWs3 V c)
  · exact (read1_2 (Val := Elt Ideal) t (inWs3 V c)).symm
theorem before1_3 (c : Dev nD) (t : Fin cfg1.N) (d) : (dat1 V c).before (3 : Fin 7) t d = inWsf V c := by
  rw [(dat1 V c).before_in_eq_fetched (3 : Fin 7) rfl (fun _ => rfl) (fun _ _ _ => rfl) (fun t => ?_) t d]
  · exact read1_3 (Val := Elt Ideal) t (inWsf V c)
  · exact (read1_3 (Val := Elt Ideal) t (inWsf V c)).symm
theorem before1_4 (c : Dev nD) (t : Fin cfg1.N) (d) : (dat1 V c).before (4 : Fin 7) t d = inSh V c := by
  rw [(dat1 V c).before_in_eq_fetched (4 : Fin 7) rfl (fun _ => rfl) (fun _ _ _ => rfl) (fun t => ?_) t d]
  · exact read1_4 (Val := Elt Ideal) t (inSh V c)
  · exact (read1_4 (Val := Elt Ideal) t (inSh V c)).symm

theorem staged1 (c : Dev nD) (t : Fin cfg1.N) (d1 : S3x8192.Idx → Elt Ideal .f32) (d2 : S13x8192.Idx → Elt Ideal .f32) :
    Staged (inX V c) (inF V c) t.val
      (win1_0.fill (grid1.coords t) d1 ((win1_0.blk t).view.read (Elt Ideal) (inX V c)))
      (win1_1.fill (grid1.coords t) d2 ((win1_1.blk t).view.read (Elt Ideal) (inF V c))) :=
  ⟨fun k l h => (fill1_0 t (inX V c) d1 (ix2 k l)).trans (dif_pos h), fun k l h => (fill1_1 t (inF V c) d2 (ix2 k l)).trans (dif_pos h)⟩

/-- The activations' block, on the columns inside the array. -/
theorem cutY (c : Dev nD) (t : Fin cfg1.N) {x : S3x8192.Idx → EReal} {f : S13x8192.Idx → EReal}
    (hst : Staged (inX V c) (inF V c) t.val x f) :
    win1_5.cut (grid1.coords t) (k1_pay2 (F := Ideal) x f (inWs3 V c) (inWsf V c) (inSh V c) : S16x8192.Idx → Elt Ideal .f32)
      = win1_5.cut (grid1.coords t) ((dat1 V c).after (5 : Fin 7) t) := by
  show _ = win1_5.cut (grid1.coords t) (stY1 V c t)
  unfold stY1
  rw [win1_5.cut_fill]
  funext y
  show k1_pay2 (F := Ideal) x f (inWs3 V c) (inWsf V c) (inSh V c) (win1_5.xinj (grid1.coords t) y) = outY V c ((win1_5.rect t).emb y)
  have hm : t.val * 8192 + (win1_5.xinj (grid1.coords t) y 1).val < 1000000 :=
    (moved1_5 t (win1_5.xinj (grid1.coords t) y)).mp ((win1_5.moved_iff _ _).mpr fun a => (y a).isLt)
  obtain ⟨r, l, e⟩ : ∃ (r : Fin 16) (l : Fin 8192), win1_5.xinj (grid1.coords t) y = ix2 r l :=
    ⟨win1_5.xinj (grid1.coords t) y 0, win1_5.xinj (grid1.coords t) y 1, eq_ix2 _⟩
  have er : (y 0).val = r.val := congrArg (fun j : S16x8192.Idx => (j 0).val) e
  have el : (y 1).val = l.val := congrArg (fun j : S16x8192.Idx => (j 1).val) e
  rw [e] at hm ⊢
  have hm' : t.val * 8192 + l.val < 1000000 := hm
  have ej : (win1_5.rect t).emb y = (ix2 r ⟨t.val * 8192 + l.val, hm'⟩ : S16x1000000.Idx) := by
    funext a
    refine Fin.ext ?_
    match a with
    | ⟨0, _⟩ => exact ((emb1_5 t y).1).trans er
    | ⟨1, _⟩ => exact ((emb1_5 t y).2).trans (congrArg (t.val * 8192 + ·) el)
  rw [ej, out2_apply, proj_staged (inWs3 V c) (inWsf V c) hst r l hm']
  rfl

/-- The features' block, on the columns inside the array. -/
theorem cutV (c : Dev nD) (t : Fin cfg1.N) {x : S3x8192.Idx → EReal} {f : S13x8192.Idx → EReal}
    (hst : Staged (inX V c) (inF V c) t.val x f) :
    win1_6.cut (grid1.coords t) (k1_pay1 (F := Ideal) f : S13x8192.Idx → Elt Ideal .f32)
      = win1_6.cut (grid1.coords t) ((dat1 V c).after (6 : Fin 7) t) := by
  show _ = win1_6.cut (grid1.coords t) (stV1 V c t)
  unfold stV1
  rw [win1_6.cut_fill]
  funext y
  show k1_pay1 (F := Ideal) f (win1_6.xinj (grid1.coords t) y) = inF V c ((win1_6.rect t).emb y)
  have hm : t.val * 8192 + (win1_6.xinj (grid1.coords t) y 1).val < 1000000 :=
    (moved1_6 t (win1_6.xinj (grid1.coords t) y)).mp ((win1_6.moved_iff _ _).mpr fun a => (y a).isLt)
  obtain ⟨r, l, e⟩ : ∃ (r : Fin 13) (l : Fin 8192), win1_6.xinj (grid1.coords t) y = ix2 r l :=
    ⟨win1_6.xinj (grid1.coords t) y 0, win1_6.xinj (grid1.coords t) y 1, eq_ix2 _⟩
  have er : (y 0).val = r.val := congrArg (fun j : S13x8192.Idx => (j 0).val) e
  have el : (y 1).val = l.val := congrArg (fun j : S13x8192.Idx => (j 1).val) e
  rw [e] at hm ⊢
  have hm' : t.val * 8192 + l.val < 1000000 := hm
  have ej : (win1_6.rect t).emb y = (ix2 r ⟨t.val * 8192 + l.val, hm'⟩ : S13x1000000.Idx) := by
    funext a
    refine Fin.ext ?_
    match a with
    | ⟨0, _⟩ => exact ((emb1_6 t y).1).trans er
    | ⟨1, _⟩ => exact ((emb1_6 t y).2).trans (congrArg (t.val * 8192 + ·) el)
  rw [ej, out1_apply, hst.2 r l hm']

/-! ## The body obligation -/

theorem body1 (c : Dev nD) : BodyObligationLoose (dat1 V c) (defs₀ (F := Ideal)) 𝒱₀ () Set.univ := fun t => by
  show iprop((dat1 V c).Φ t.castSucc ∗ (dat1 V c).owesAt () t.castSucc ∗ bigSep Finset.univ fun w : Fin 7 =>
        iprop(∃ d, owns (c : Thread nD τ) ((cfg1.win w).stage (cfg1.slots t w)) fullShare ((dat1 V c).before w t d)))
      ⊢ wp frame (wpE (defs₀ (F := Ideal)) 𝒱₀ (c : Thread nD τ) none) Set.univ (bodyAt1 (F := Ideal) t) fun _ =>
          iprop((dat1 V c).Φ t.succ ∗ (dat1 V c).owesAt () t.succ ∗ bigSep Finset.univ fun w : Fin 7 => (dat1 V c).leaves w t)
  rw [bigSep_W1, bigSep_W1, show (dat1 V c).owesAt () t.succ = (dat1 V c).owesAt () t.castSucc from rfl,
    show (dat1 V c).Φ t.succ = (dat1 V c).Φ t.castSucc from rfl]
  have hcut0 : ∀ d, win1_0.cut (grid1.coords t) (win1_0.fill (grid1.coords t) d ((win1_0.blk t).view.read (Elt Ideal) (inX V c)))
      = win1_0.cut (grid1.coords t) ((dat1 V c).after (0 : Fin 7) t) := fun d => by
    show _ = win1_0.cut (grid1.coords t) (stX1 V c t)
    unfold stX1; rw [win1_0.cut_fill, win1_0.cut_fill]
  have hcut1 : ∀ d, win1_1.cut (grid1.coords t) (win1_1.fill (grid1.coords t) d ((win1_1.blk t).view.read (Elt Ideal) (inF V c)))
      = win1_1.cut (grid1.coords t) ((dat1 V c).after (1 : Fin 7) t) := fun d => by
    show _ = win1_1.cut (grid1.coords t) (stF1 V c t)
    unfold stF1; rw [win1_1.cut_fill, win1_1.cut_fill]
  iintro ⟨HΦ, Ho, ⟨%d0, H0⟩, ⟨%d1, H1⟩, ⟨%d2, H2⟩, ⟨%d3, H3⟩, ⟨%d4, H4⟩, ⟨%d5, H5⟩, ⟨%d6, H6⟩⟩
  rw [before1_0, before1_1, before1_2, before1_3, before1_4]
  have hst := staged1 V c t d0 d1
  iapply (sound_apply (F := Ideal) c Set.univ (grid1.coords t) _ _ _ _ _ _ _ _ _ _ _ _ _ _
    (win1_0.fill (grid1.coords t) d0 ((win1_0.blk t).view.read (Elt Ideal) (inX V c)))
    (win1_1.fill (grid1.coords t) d1 ((win1_1.blk t).view.read (Elt Ideal) (inF V c))) (inWs3 V c) (inWsf V c) (inSh V c) _ _ _)
  isplitl [H0 H1 H2 H3 H4 H5 H6]
  · isplitl [H0]; · iexact H0
    isplitl [H1]; · iexact H1
    isplitl [H2]; · iexact H2
    isplitl [H3]; · iexact H3
    isplitl [H4]; · iexact H4
    isplitl [H5]; · iexact H5
    iexact H6
  iintro ⟨H0, H1, H2, H3, H4, H5, H6⟩
  isplitl [HΦ]; · iexact HΦ
  isplitl [Ho]; · iexact Ho
  isplitl [H0]; · iapply (leaves_loose (dat1 V c) (0 : Fin 7) t rfl rfl _ (hcut0 d0)); iexact H0
  isplitl [H1]; · iapply (leaves_loose (dat1 V c) (1 : Fin 7) t rfl rfl _ (hcut1 d1)); iexact H1
  isplitl [H2]; · iapply (leaves_exact (dat1 V c) (2 : Fin 7) t rfl rfl); iexact H2
  isplitl [H3]; · iapply (leaves_exact (dat1 V c) (3 : Fin 7) t rfl rfl); iexact H3
  isplitl [H4]; · iapply (leaves_exact (dat1 V c) (4 : Fin 7) t rfl rfl); iexact H4
  isplitl [H5]; · iapply (leaves_loose (dat1 V c) (5 : Fin 7) t rfl rfl _ (cutY V c t hst)); iexact H5
  iapply (leaves_loose (dat1 V c) (6 : Fin 7) t rfl rfl _ (cutV V c t hst)); iexact H6

/-! ## The arrays at the end -/

theorem cover1_5 (i : S16x1000000.Idx) : ∃ t : Fin cfg1.N, (cfg1.win 5).flush t = true ∧ i ∈ (win1_5.blk t).view.set := by
  have h0 : (i 0).val < 16 := (i 0).isLt
  have h1 : (i 1).val < 1000000 := (i 1).isLt
  have hN : (i 1).val / 8192 < cfg1.N := lt_of_lt_of_eq (show (i 1).val / 8192 < 123 by omega) N_1.symm
  refine ⟨⟨(i 1).val / 8192, hN⟩, flush1_5 _, ?_⟩
  show i ∈ ((View.whole main_v8_0).slice (win1_5.rect ⟨(i 1).val / 8192, hN⟩)).set
  rw [View.set_slice_whole, Rect.mem_set_unit]
  have e0 : win1_5.index ⟨(i 1).val / 8192, hN⟩ = ![0, (i 1).val / 8192] := index1_5 _
  have x0 : win1_5.xsize (grid1.coords ⟨(i 1).val / 8192, hN⟩) 0 = 16 := by
    show (Clip.of (win1_5.index ⟨(i 1).val / 8192, hN⟩ 0) 16 16).extent 16 = 16
    rw [e0]; exact clip_rows 16
  have x1 : win1_5.xsize (grid1.coords ⟨(i 1).val / 8192, hN⟩) 1 = min 8192 (1000000 - (i 1).val / 8192 * 8192) := by
    show (Clip.of (win1_5.index ⟨(i 1).val / 8192, hN⟩ 1) 8192 1000000).extent 8192 = _
    rw [e0]; exact clip_cols _
  intro a
  match a with
  | ⟨0, _⟩ =>
    show win1_5.index ⟨(i 1).val / 8192, hN⟩ 0 * 16 ≤ (i 0).val ∧ (i 0).val < win1_5.index ⟨(i 1).val / 8192, hN⟩ 0 * 16 + win1_5.xsize (grid1.coords ⟨(i 1).val / 8192, hN⟩) 0
    rw [x0, e0]; show 0 * 16 ≤ _ ∧ _ < 0 * 16 + 16; omega
  | ⟨1, _⟩ =>
    show win1_5.index ⟨(i 1).val / 8192, hN⟩ 1 * 8192 ≤ (i 1).val ∧ (i 1).val < win1_5.index ⟨(i 1).val / 8192, hN⟩ 1 * 8192 + win1_5.xsize (grid1.coords ⟨(i 1).val / 8192, hN⟩) 1
    rw [x1, e0]; show (i 1).val / 8192 * 8192 ≤ _ ∧ _ < (i 1).val / 8192 * 8192 + min 8192 (1000000 - (i 1).val / 8192 * 8192); omega

theorem final1_5 (c : Dev nD) : (dat1 V c).arrAt (5 : Fin 7) cfg1.N = outY V c :=
  (dat1 V c).arrAt_eq_of_cover (5 : Fin 7) (outY V c)
    (fun t _ => by
      show win1_5.cut (grid1.coords t) (stY1 V c t) = _
      unfold stY1
      rw [win1_5.cut_fill])
    (fun i => cover1_5 i)

theorem cover1_6 (i : S13x1000000.Idx) : ∃ t : Fin cfg1.N, (cfg1.win 6).flush t = true ∧ i ∈ (win1_6.blk t).view.set := by
  have h0 : (i 0).val < 13 := (i 0).isLt
  have h1 : (i 1).val < 1000000 := (i 1).isLt
  have hN : (i 1).val / 8192 < cfg1.N := lt_of_lt_of_eq (show (i 1).val / 8192 < 123 by omega) N_1.symm
  refine ⟨⟨(i 1).val / 8192, hN⟩, flush1_6 _, ?_⟩
  show i ∈ ((View.whole main_v8_1).slice (win1_6.rect ⟨(i 1).val / 8192, hN⟩)).set
  rw [View.set_slice_whole, Rect.mem_set_unit]
  have e0 : win1_6.index ⟨(i 1).val / 8192, hN⟩ = ![0, (i 1).val / 8192] := index1_6 _
  have x0 : win1_6.xsize (grid1.coords ⟨(i 1).val / 8192, hN⟩) 0 = 13 := by
    show (Clip.of (win1_6.index ⟨(i 1).val / 8192, hN⟩ 0) 13 13).extent 13 = 13
    rw [e0]; exact clip_rows 13
  have x1 : win1_6.xsize (grid1.coords ⟨(i 1).val / 8192, hN⟩) 1 = min 8192 (1000000 - (i 1).val / 8192 * 8192) := by
    show (Clip.of (win1_6.index ⟨(i 1).val / 8192, hN⟩ 1) 8192 1000000).extent 8192 = _
    rw [e0]; exact clip_cols _
  intro a
  match a with
  | ⟨0, _⟩ =>
    show win1_6.index ⟨(i 1).val / 8192, hN⟩ 0 * 13 ≤ (i 0).val ∧ (i 0).val < win1_6.index ⟨(i 1).val / 8192, hN⟩ 0 * 13 + win1_6.xsize (grid1.coords ⟨(i 1).val / 8192, hN⟩) 0
    rw [x0, e0]; show 0 * 13 ≤ _ ∧ _ < 0 * 13 + 13; omega
  | ⟨1, _⟩ =>
    show win1_6.index ⟨(i 1).val / 8192, hN⟩ 1 * 8192 ≤ (i 1).val ∧ (i 1).val < win1_6.index ⟨(i 1).val / 8192, hN⟩ 1 * 8192 + win1_6.xsize (grid1.coords ⟨(i 1).val / 8192, hN⟩) 1
    rw [x1, e0]; show (i 1).val / 8192 * 8192 ≤ _ ∧ _ < (i 1).val / 8192 * 8192 + min 8192 (1000000 - (i 1).val / 8192 * 8192); omega

theorem final1_6 (c : Dev nD) : (dat1 V c).arrAt (6 : Fin 7) cfg1.N = inF V c :=
  (dat1 V c).arrAt_eq_of_cover (6 : Fin 7) (inF V c)
    (fun t _ => by
      show win1_6.cut (grid1.coords t) (stV1 V c t) = _
      unfold stV1
      rw [win1_6.cut_fill])
    (fun i => cover1_6 i)

theorem cover0_7 (i : S16x3.Idx) : ∃ t : Fin cfg0.N, (cfg0.win 7).flush t = true ∧ i ∈ (win0_7.blk t).view.set := by
  have hN : 122 < cfg0.N := lt_of_lt_of_eq (by omega) N_0.symm
  refine ⟨⟨122, hN⟩, (flush0_7 _).mpr rfl, ?_⟩
  show i ∈ ((View.whole main_v7_0).slice (win0_7.rect ⟨122, hN⟩)).set
  rw [View.set_slice_whole, Rect.mem_set_unit]
  intro a
  match a with
  | ⟨0, _⟩ => show 0 * 16 ≤ (i 0).val ∧ (i 0).val < 0 * 16 + 16; have : (i 0).val < 16 := (i 0).isLt; omega
  | ⟨1, _⟩ => show 0 * 3 ≤ (i 1).val ∧ (i 1).val < 0 * 3 + 3; have : (i 1).val < 3 := (i 1).isLt; omega

theorem final0_7 (c : Dev nD) : (dat0 V c).arrAt (7 : Fin 10) cfg0.N = outW3 V c :=
  (dat0 V c).arrAt_eq_of_cover (7 : Fin 10) (outW3 V c)
    (fun t _ => (read0_7 (Val := Elt Ideal) t (outW3 V c)).symm)
    (fun i => cover0_7 i)

theorem cover0_8 (i : S16x13.Idx) : ∃ t : Fin cfg0.N, (cfg0.win 8).flush t = true ∧ i ∈ (win0_8.blk t).view.set := by
  have hN : 122 < cfg0.N := lt_of_lt_of_eq (by omega) N_0.symm
  refine ⟨⟨122, hN⟩, (flush0_8 _).mpr rfl, ?_⟩
  show i ∈ ((View.whole main_v7_1).slice (win0_8.rect ⟨122, hN⟩)).set
  rw [View.set_slice_whole, Rect.mem_set_unit]
  intro a
  match a with
  | ⟨0, _⟩ => show 0 * 16 ≤ (i 0).val ∧ (i 0).val < 0 * 16 + 16; have : (i 0).val < 16 := (i 0).isLt; omega
  | ⟨1, _⟩ => show 0 * 13 ≤ (i 1).val ∧ (i 1).val < 0 * 13 + 13; have : (i 1).val < 13 := (i 1).isLt; omega

theorem final0_8 (c : Dev nD) : (dat0 V c).arrAt (8 : Fin 10) cfg0.N = outWf V c :=
  (dat0 V c).arrAt_eq_of_cover (8 : Fin 10) (outWf V c)
    (fun t _ => (read0_8 (Val := Elt Ideal) t (outWf V c)).symm)
    (fun i => cover0_8 i)

theorem cover0_9 (i : S16x1.Idx) : ∃ t : Fin cfg0.N, (cfg0.win 9).flush t = true ∧ i ∈ (win0_9.blk t).view.set := by
  have hN : 122 < cfg0.N := lt_of_lt_of_eq (by omega) N_0.symm
  refine ⟨⟨122, hN⟩, (flush0_9 _).mpr rfl, ?_⟩
  show i ∈ ((View.whole main_v7_2).slice (win0_9.rect ⟨122, hN⟩)).set
  rw [View.set_slice_whole, Rect.mem_set_unit]
  intro a
  match a with
  | ⟨0, _⟩ => show 0 * 16 ≤ (i 0).val ∧ (i 0).val < 0 * 16 + 16; have : (i 0).val < 16 := (i 0).isLt; omega
  | ⟨1, _⟩ => show 0 * 1 ≤ (i 1).val ∧ (i 1).val < 0 * 1 + 1; have : (i 1).val < 1 := (i 1).isLt; omega

theorem final0_9 (c : Dev nD) : (dat0 V c).arrAt (9 : Fin 10) cfg0.N = outSh V c :=
  (dat0 V c).arrAt_eq_of_cover (9 : Fin 10) (outSh V c)
    (fun t _ => (read0_9 (Val := Elt Ideal) t (outSh V c)).symm)
    (fun i => cover0_9 i)

end Cert.KernelIdeal.Hand
-- ==== Proof.KernelIdeal.Run.lean ====
/-
  The run of the idealized kernel: the host's operations, the two pipelines and the host's last operations in order, from
  any launch. Every buffer outside the kernels' own ends at the contents `W4` names.
-/
module

public import proofs.«01_k».proof.Proof.KernelIdeal.Region1
public import proofs.«01_k».proof.Proof.Gen.KernelIdeal.Regions
public import Idealize.ShloMosaic.Lib.Pipeline.RegionArraysS
public import Idealize.ShloMosaic.Lib.StableHlo.ReadAt
public import Idealize.ShloMosaic.Lib.Pointwise

@[expose] public section

set_option maxRecDepth 16384

noncomputable section

namespace Cert.KernelIdeal.Hand

open Cert.KernelIdeal Cert.KernelIdeal.Gen
open Idealize.ShloMosaic
open Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window Seg HostSeg RegionSeg)

local notation "𝕄" => MT nD τ sig Unit (Elt Ideal) ℕ (UR sig nD τ) ℕ

variable (m : (ℓ : Loc nD τ sig) → Buf (Elt Ideal) ℓ)

/-! ## The contents between the items -/

/-- Before the first pipeline, after it, after the second, and at the end. -/
def W1 (c : Dev nD) : Valuation τ sig (Elt Ideal) := V1 m c
def W2 (c : Dev nD) : Valuation τ sig (Elt Ideal) := Pipeline.afterRegion (dat0 (W1 m) c) (W1 m c)
def W3 (c : Dev nD) : Valuation τ sig (Elt Ideal) := Pipeline.afterRegion (dat1 (W2 m) c) (W2 m c)
def W4 (c : Dev nD) : Valuation τ sig (Elt Ideal) := StableHlo.after hostOps2 (W3 m c)

/-- The count the first kernel reads is a million. -/
theorem W1_count (c : Dev nD) : W1 m c main_v6 = fun _ => million := by
  funext i
  show StableHlo.after hostOps0 (V0 m c) main_v6 i = million
  after_reads_at

/-- The proof data of the two pipelines. -/
def pdats (p : Fin 2) (c : Dev nD) : Dat τ (Elt Ideal) Unit ℕ (UR sig nD τ) ℕ (cfgs p) c :=
  match p with
  | ⟨0, _⟩ => dat0 (W1 m) c
  | ⟨1, _⟩ => dat1 (W2 m) c

/-! ## The launch -/

abbrev L : GSem nD τ sig → Finset Unit := fun g => if g.1.2 = .tc then Finset.univ else ∅
abbrev lv : GSem nD τ sig → Unit → ℕ := fun _ _ => 0

theorem cut (p : Fin 2) : Pipeline.LevelCut (pcfgs (F := Ideal)) adm () L lv p (fun _ : Dev nD => (0 : CellTallies nD τ sig Unit)) fun _ => 0 where
  hι _ _ _ := by simp [L]
  hιb _ _ _ := le_refl _
  hD _ _ _ h := absurd h (lt_irrefl _)

/-- What rides beside the buffers. -/
abbrev E (_ : Fin 3) (c : Dev nD) : sProp 𝕄 := iprop(∃ Wd, owes (c : Thread nD τ) (0 : CellTallies nD τ sig Unit) Wd)

theorem Phi0_in (V : Dev nD → Valuation τ sig (Elt Ideal)) (c : Dev nD) :
    iprop(Pipeline.scopedRest (Ix := Unit) (Name := ℕ) (U := UR sig nD τ) (Lvl := ℕ) (Val := Elt Ideal) spec0 c ∗ emp) ⊢ (Phi0 V c 0 : sProp 𝕄) := by
  rw [rest0_split]; unfold Phi0
  simp only [owns_whole_eq]
  iintro ⟨⟨⟨%s, Hs⟩, ⟨%q, Hq⟩, Hr⟩, -⟩
  iexists s; iexists q
  isplitr; · ipureintro; exact fun h => absurd rfl h
  isplitl [Hs]; · iexists _; isplitr; swap; · iexact Hs
                  ipureintro; rfl
  isplitl [Hq]; · iexists _; isplitr; swap; · iexact Hq
                  ipureintro; rfl
  iexact Hr

theorem Phi0_out (V : Dev nD → Valuation τ sig (Elt Ideal)) (c : Dev nD) (n : ℕ) :
    (Phi0 V c n : sProp 𝕄) ⊢ iprop(Pipeline.scopedRest (Ix := Unit) (Name := ℕ) (U := UR sig nD τ) (Lvl := ℕ) (Val := Elt Ideal) spec0 c ∗ emp) := by
  rw [rest0_split]; unfold Phi0
  simp only [owns_whole_eq]
  iintro ⟨%s, %q, -, ⟨%s', %_, Hs⟩, ⟨%q', %_, Hq⟩, Hr⟩
  isplitl; swap; · iempintro
  isplitl [Hs]; · iexists _; iexact Hs
  isplitl [Hq]; · iexists _; iexact Hq
  iexact Hr

theorem drop_emp (c : Dev nD) :
    iprop(Pipeline.scopedRest (Ix := Unit) (Name := ℕ) (U := UR sig nD τ) (Lvl := ℕ) (Val := Elt Ideal) spec1 c ∗ emp)
      ⊢ (Pipeline.scopedRest (Ix := Unit) (Name := ℕ) (U := UR sig nD τ) (Lvl := ℕ) (Val := Elt Ideal) spec1 c : sProp 𝕄) := by
  iintro ⟨H, -⟩; iexact H
theorem add_emp (c : Dev nD) :
    (Pipeline.scopedRest (Ix := Unit) (Name := ℕ) (U := UR sig nD τ) (Lvl := ℕ) (Val := Elt Ideal) spec1 c : sProp 𝕄)
      ⊢ iprop(Pipeline.scopedRest (Ix := Unit) (Name := ℕ) (U := UR sig nD τ) (Lvl := ℕ) (Val := Elt Ideal) spec1 c ∗ emp) := by
  iintro H; isplitl; · iexact H
  iempintro

def R0 : RegionSeg (pcfgs (F := Ideal)) adm (pdats m) () defs₀ 𝒱₀ L lv 0 :=
  RegionSeg.ofHeldIn (pcfgs (F := Ideal)) adm (pdats m) () defs₀ 𝒱₀ L lv 0 (fun _ => 0) (Pipeline.ucRefs τ sig)
    (fun _ => iprop(emp)) (fun _ => iprop(emp)) launch0.toP rfl (fun c => body0 (W1 m) c (W1_count m c))
    (fun _ _ => rfl) (fun _ => rfl) (fun c => (pdats m 0 c).share_full fun _ => rfl)
    (fun c => Phi0_in (W1 m) c) (fun c => Phi0_out (W1 m) c _) (fun _ => 0) (cut 0) (fun _ => iprop(emp)) (W1 m) (fun _ _ => rfl)

def R1 : RegionSeg (pcfgs (F := Ideal)) adm (pdats m) () defs₀ 𝒱₀ L lv 1 :=
  RegionSeg.ofHeldIn (pcfgs (F := Ideal)) adm (pdats m) () defs₀ 𝒱₀ L lv 1 (fun _ => 0) (Pipeline.ucRefs τ sig)
    (fun _ => iprop(emp)) (fun _ => iprop(emp)) launch1.toP rfl (fun c => body1 (W2 m) c)
    (fun _ _ => rfl) (fun _ => rfl) (fun c => (pdats m 1 c).share_full fun _ => rfl)
    (fun c => drop_emp c) (fun c => add_emp c) (fun _ => 0) (cut 1) (fun _ => iprop(emp)) (W2 m) (fun _ _ => rfl)

/-- The host's last operations. -/
def segE : HostSeg (Ix := Unit) (Name := ℕ) (U := UR sig nD τ) (Lvl := ℕ) (pcfgs (F := Ideal)) defs₀ 𝒱₀ L lv :=
  HostSeg.ofOps _ _ _ _ _ (Pipeline.ucRefs τ sig) hostOps2
    (fun op h => Pipeline.sub_ucRefs op ((List.forall_iff_forall_mem.mp hostOps2_sub) op h))
    (fun op h => (List.forall_iff_forall_mem.mp hostOps2_fresh) op h) (W3 m) (E 2)

abbrev items (c : Dev nD) : List (Seg (pcfgs (F := Ideal)) adm (pdats m) () defs₀ 𝒱₀ L lv) :=
  [.host (seg0 m 𝒱₀ L lv E), .region (R0 m), .region (R1 m), .host (segE m)]

theorem sub0 : Pipeline.arrRefs (τ := τ) (pcfgs (F := Ideal) 0).spec ⊆ Pipeline.ucRefs τ sig := Pipeline.arrRefs_sub_ucRefs spec0 (by decide)
theorem sub1 : Pipeline.arrRefs (τ := τ) (pcfgs (F := Ideal) 1).spec ⊆ Pipeline.ucRefs τ sig := Pipeline.arrRefs_sub_ucRefs spec1 (by decide)

theorem pre0 (c : Dev nD) : iprop(StableHlo.held (c : Thread nD τ) (Pipeline.ucRefs τ sig) (W1 m c) ∗ E 0 c) ⊢ (R0 m).pre c := by
  refine BI.Entails.trans ?_ (by unfold R0; exact RegionSeg.ofHeldIn_pre (p := 0) sub0 c)
  show iprop(StableHlo.held (c : Thread nD τ) (Pipeline.ucRefs τ sig) (W1 m c) ∗ E 0 c) ⊢ iprop(StableHlo.held (c : Thread nD τ) (Pipeline.ucRefs τ sig) (W1 m c) ∗ ((∃ Wd, owes (c : Thread nD τ) (0 : CellTallies nD τ sig Unit) Wd) ∗ emp ∗ emp))
  iintro ⟨H, HE⟩
  isplitl [H]; · iexact H
  isplitl [HE]; · iexact HE
  isplitl <;> iempintro
theorem post0 (c : Dev nD) : (R0 m).post c ⊢ iprop(StableHlo.held (c : Thread nD τ) (Pipeline.ucRefs τ sig) (W2 m c) ∗ E 1 c) := by
  refine BI.Entails.trans (by unfold R0; exact RegionSeg.ofHeldIn_post (p := 0) sub0 c) ?_
  show iprop(StableHlo.held (c : Thread nD τ) (Pipeline.ucRefs τ sig) (Pipeline.afterRegion (dat0 (W1 m) c) (W1 m c)) ∗ ((∃ Wd, owes (c : Thread nD τ) (0 : CellTallies nD τ sig Unit) Wd) ∗ emp ∗ emp)) ⊢ iprop(StableHlo.held (c : Thread nD τ) (Pipeline.ucRefs τ sig) (Pipeline.afterRegion (dat0 (W1 m) c) (W1 m c)) ∗ E 1 c)
  iintro ⟨H, HE, -⟩
  isplitl [H]; · iexact H
  iexact HE
theorem pre1 (c : Dev nD) : iprop(StableHlo.held (c : Thread nD τ) (Pipeline.ucRefs τ sig) (W2 m c) ∗ E 1 c) ⊢ (R1 m).pre c := by
  refine BI.Entails.trans ?_ (by unfold R1; exact RegionSeg.ofHeldIn_pre (p := 1) sub1 c)
  show iprop(StableHlo.held (c : Thread nD τ) (Pipeline.ucRefs τ sig) (W2 m c) ∗ E 1 c) ⊢ iprop(StableHlo.held (c : Thread nD τ) (Pipeline.ucRefs τ sig) (W2 m c) ∗ ((∃ Wd, owes (c : Thread nD τ) (0 : CellTallies nD τ sig Unit) Wd) ∗ emp ∗ emp))
  iintro ⟨H, HE⟩
  isplitl [H]; · iexact H
  isplitl [HE]; · iexact HE
  isplitl <;> iempintro
theorem post1 (c : Dev nD) : (R1 m).post c ⊢ iprop(StableHlo.held (c : Thread nD τ) (Pipeline.ucRefs τ sig) (W3 m c) ∗ E 2 c) := by
  refine BI.Entails.trans (by unfold R1; exact RegionSeg.ofHeldIn_post (p := 1) sub1 c) ?_
  show iprop(StableHlo.held (c : Thread nD τ) (Pipeline.ucRefs τ sig) (Pipeline.afterRegion (dat1 (W2 m) c) (W2 m c)) ∗ ((∃ Wd, owes (c : Thread nD τ) (0 : CellTallies nD τ sig Unit) Wd) ∗ emp ∗ emp)) ⊢ iprop(StableHlo.held (c : Thread nD τ) (Pipeline.ucRefs τ sig) (Pipeline.afterRegion (dat1 (W2 m) c) (W2 m c)) ∗ E 2 c)
  iintro ⟨H, HE, -⟩
  isplitl [H]; · iexact H
  iexact HE

set_option backward.isDefEq.respectTransparency.types false in
/-- Every fair run ends, with every unscoped buffer at `W4` and every counter at zero. -/
theorem run (ρ : Dev nD → PrngReg) :
    θ_run defs (onTc (τ := τ) (main (F := Ideal))) ⟨m, fun _ => 0, ρ⟩ (fun r =>
      (∀ c : Dev nD, ∀ b ∈ Pipeline.ucRefs τ sig, r.2.mem ((c : Thread nD τ).1, b) = W4 m c b) ∧ r.2.sem = fun _ => 0) := by
  refine Pipeline.θ_run_regions_kit_dev_sems (pcfgs (F := Ideal)) adm (pdats m) () cellOf_inj emb₁ defs₀ 𝒱₀ L lv m ρ main
    (items m)
    (fun c Q => by
      rewrite [main_chain c, Seg.run_eq_chain,
        show (items m c).map Seg.prog = [
          StableHlo.seq hostOps0,
          Prog.lift (.customCall (Pipeline.entry 0) ()),
          Prog.lift (.customCall (Pipeline.entry 1) ()),
          StableHlo.seq hostOps2 ] from rfl]
      dsimp (config := { failIfUnchanged := false }) only
      exact .rfl)
    (fun c => by simp only [items, Seg.pipes_host, Seg.pipes_region, Seg.pipes_nil]; decide) 0 (fun g h => if_neg h)
    (G := fun _ => iprop(emp)) (u₀ := initOf (Pipeline.cells cfgs cellOf_inj) (Pipeline.launchToks cfgs cellOf_inj))
    (hu₀ := by
      iintro Hu; imodintro
      isplitl [Hu]
      · iapply (show (ownU _ : sProp 𝕄) ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (V0 m c) ∗ E 0 c))
    (Tₙ := fun c => StableHlo.held (c : Thread nD τ) (Pipeline.ucRefs τ sig) (W4 m c))
    (hch := fun c => ⟨.rfl, pre0 m c, (post0 m c).trans (pre1 m c), post1 m c, .rfl⟩)
    (hinit := ?_) (QY := fun c s => ∀ b ∈ Pipeline.ucRefs τ sig, s.mem ((c : Thread nD τ).1, b) = W4 m c b)
    (hfin := fun c s' => ?_) (hQ := fun _ h hz => ⟨h, funext fun g => hz g (.inr (regions_no_unscoped g.2))⟩)
  · refine Pipeline.initEach L lv fun c => ?_
    rw [show unscopedBufs c (fun b => m ((c.tc : Thread nD τ).loc b)) = StableHlo.held (c.tc : Thread nD τ) (Pipeline.ucRefs τ sig) (V0 m c)
          from Pipeline.unscopedBufs_held (Ix := Unit) (Name := ℕ) (U := UR sig nD τ) (Lvl := ℕ) c (V0 m c)]
    iintro ⟨⟨Hh, -, HO, -⟩, -⟩
    imodintro
    isplitl [Hh]; · iexact Hh
    iexists _; iexact HO
  · unfold StableHlo.held
    iintro ⟨Hh, HSI⟩
    ihave Hr := (pointsTo_read_all (Pipeline.ucRefs τ sig) (fun b => ((c : Thread nD τ).1, b)) (W4 m c) s') $$ [Hh HSI]
    · isplitl [Hh] <;> iassumption
    imodintro; iexact Hr

end Cert.KernelIdeal.Hand
-- ==== Proof.KernelIdeal.Value.lean ====
/-
  What the idealized kernel's run leaves in the buffers that the claims speak of: the arguments as launched, and the two
  computed results read at an index from the arguments.
-/
module

public import proofs.«01_k».proof.Proof.KernelIdeal.Run

@[expose] public section

set_option maxRecDepth 16384

noncomputable section

namespace Cert.KernelIdeal.Hand

open Cert.KernelIdeal Cert.KernelIdeal.Gen
open Idealize.ShloMosaic
open Idealize.ShloMosaic.TcCoe
open Idealize.SL.Sem

variable (m : (ℓ : Loc nD τ sig) → Buf (Elt Ideal) ℓ) (c : Dev nD)

/-! ## The buffers that an item leaves alone -/

theorem W4_of (r : Ref sig .tc) (h : r ∉ hostOps2_W) : W4 m c r = W3 m c r :=
  StableHlo.after_of_writes_sub hostOps2 _ hostOps2_writes h
theorem W3_of (r : Ref sig .tc) (h : ∀ w, Pipeline.arrRef cfg1.spec w = r → (cfg1.win w).isOut = false) : W3 m c r = W2 m c r :=
  Pipeline.afterRegion_keeps (dat1 (W2 m) c) (W2 m c) launch1.win.arr_inj (fun w => rfl) r h
theorem W2_of (r : Ref sig .tc) (h : ∀ w, Pipeline.arrRef cfg0.spec w = r → (cfg0.win w).isOut = false) : W2 m c r = W1 m c r :=
  Pipeline.afterRegion_keeps (dat0 (W1 m) c) (W1 m c) launch0.win.arr_inj (fun w => rfl) r h
theorem W1_of (r : Ref sig .tc) (h : r ∉ hostOps0_W) : W1 m c r = m (c, r) :=
  StableHlo.after_of_writes_sub hostOps0 _ hostOps0_writes h

/-- No item writes `r`. -/
theorem W4_kept (r : Ref sig .tc) (h4 : r ∉ hostOps2_W)
    (h3 : ∀ w, Pipeline.arrRef cfg1.spec w = r → (cfg1.win w).isOut = false)
    (h2 : ∀ w, Pipeline.arrRef cfg0.spec w = r → (cfg0.win w).isOut = false) (h1 : r ∉ hostOps0_W) :
    W4 m c r = m (c, r) :=
  (W4_of m c r h4).trans ((W3_of m c r h3).trans ((W2_of m c r h2).trans (W1_of m c r h1)))

/-- An unscoped reference is one the run speaks of. -/
theorem mem_uc (b : Ref sig .tc) (hb : (Proc.devRef .tc b : DevRef τ sig).isScoped = false) :
    (Proc.devRef .tc b : DevRef τ sig) ∈ Pipeline.ucRefs τ sig :=
  Finset.mem_filter.mpr ⟨StableHlo.devRef_mem_tcRefs b, by rw [hb]; decide⟩

/-- The arguments end as launched, the two computed results at `W4`. -/
theorem run_args (ρ : Dev nD → PrngReg) :
    θ_run defs (onTc (τ := τ) (main (F := Ideal))) ⟨m, fun _ => 0, ρ⟩ (fun r => (∀ c : Dev nD,
      (r.2.mem ((c.tc : Thread nD τ).loc main_v9) = W4 m c main_v9 ∧ r.2.mem ((c.tc : Thread nD τ).loc main_v10) = W4 m c main_v10)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6))
      ∧ r.2.sem = fun _ => 0) := by
  refine (θ_run defs _ _).mono ?_ (run m ρ)
  rintro r ⟨h, hs⟩
  refine ⟨fun c => ?_, hs⟩
  have g := h c
  exact ⟨⟨g _ (mem_uc main_v9 rfl), g _ (mem_uc main_v10 rfl)⟩,
    (g _ (mem_uc main_arg0 rfl)).trans (W4_kept m c _ (by decide) (by decide) (by decide) (by decide)),
    (g _ (mem_uc main_arg1 rfl)).trans (W4_kept m c _ (by decide) (by decide) (by decide) (by decide)),
    (g _ (mem_uc main_arg2 rfl)).trans (W4_kept m c _ (by decide) (by decide) (by decide) (by decide)),
    (g _ (mem_uc main_arg3 rfl)).trans (W4_kept m c _ (by decide) (by decide) (by decide) (by decide)),
    (g _ (mem_uc main_arg4 rfl)).trans (W4_kept m c _ (by decide) (by decide) (by decide) (by decide)),
    (g _ (mem_uc main_arg5 rfl)).trans (W4_kept m c _ (by decide) (by decide) (by decide) (by decide)),
    (g _ (mem_uc main_arg6 rfl)).trans (W4_kept m c _ (by decide) (by decide) (by decide) (by decide))⟩

/-! ## The operands of the first pipeline, from the arguments -/

/-- The arguments. -/
abbrev argX : S1000000x3.Idx → EReal := m ((c.tc : Thread nD τ).loc main_arg0)
abbrev argF : S1000000x13.Idx → EReal := m ((c.tc : Thread nD τ).loc main_arg1)
abbrev argW : S16x16.Idx → EReal := m ((c.tc : Thread nD τ).loc main_arg4)
abbrev argG : S16.Idx → EReal := m ((c.tc : Thread nD τ).loc main_arg5)
abbrev argB : S16.Idx → EReal := m ((c.tc : Thread nD τ).loc main_arg6)

theorem W1_X (k : Fin 3) (n : Fin 1000000) : inX (W1 m) c (ix2 k n) = argX m c (ix2 n k) := by
  show StableHlo.after hostOps0 (V0 m c) main_v0 (ix2 k n) = _
  after_reads_at
theorem W1_F (k : Fin 13) (n : Fin 1000000) : inF (W1 m) c (ix2 k n) = argF m c (ix2 n k) := by
  show StableHlo.after hostOps0 (V0 m c) main_v1 (ix2 k n) = _
  after_reads_at
theorem W1_W3 (r : Fin 16) (k : Fin 3) : inW3 (W1 m) c (ix2 r k) = argW m c (ix2 r ⟨k.val, by omega⟩) := by
  show StableHlo.after hostOps0 (V0 m c) main_v2 (ix2 r k) = _
  after_reads_at
theorem W1_Wf (r : Fin 16) (k : Fin 13) : inWf (W1 m) c (ix2 r k) = argW m c (ix2 r ⟨3 + k.val, by omega⟩) := by
  show StableHlo.after hostOps0 (V0 m c) main_v3 (ix2 r k) = _
  after_reads_at
theorem W1_G (r : Fin 16) : inG (W1 m) c (ix2 r 0) = argG m c (ix1 r) := by
  show StableHlo.after hostOps0 (V0 m c) main_v4 (ix2 r 0) = _
  after_reads_at
theorem W1_B (r : Fin 16) : inB (W1 m) c (ix2 r 0) = argB m c (ix1 r) := by
  show StableHlo.after hostOps0 (V0 m c) main_v5 (ix2 r 0) = _
  after_reads_at

/-! ## The operands of the second, and the results -/

theorem W2_X : inX (W2 m) c = inX (W1 m) c := W2_of m c main_v0 (by decide)
theorem W2_F : inF (W2 m) c = inF (W1 m) c := W2_of m c main_v1 (by decide)
theorem W2_Ws3 : inWs3 (W2 m) c = outW3 (W1 m) c :=
  (Pipeline.afterRegion_arr (dat0 (W1 m) c) (W1 m c) launch0.win.arr_inj 7).trans (final0_7 (W1 m) c)
theorem W2_Wsf : inWsf (W2 m) c = outWf (W1 m) c :=
  (Pipeline.afterRegion_arr (dat0 (W1 m) c) (W1 m c) launch0.win.arr_inj 8).trans (final0_8 (W1 m) c)
theorem W2_Sh : inSh (W2 m) c = outSh (W1 m) c :=
  (Pipeline.afterRegion_arr (dat0 (W1 m) c) (W1 m c) launch0.win.arr_inj 9).trans (final0_9 (W1 m) c)
theorem W3_Y : (W3 m c main_v8_0 : S16x1000000.Idx → EReal) = outY (W2 m) c :=
  (Pipeline.afterRegion_arr (dat1 (W2 m) c) (W2 m c) launch1.win.arr_inj 5).trans (final1_5 (W2 m) c)
theorem W3_V : (W3 m c main_v8_1 : S13x1000000.Idx → EReal) = inF (W2 m) c :=
  (Pipeline.afterRegion_arr (dat1 (W2 m) c) (W2 m c) launch1.win.arr_inj 6).trans (final1_6 (W2 m) c)

/-- The second result is the second argument. -/
theorem W4_v10 : (W4 m c main_v10 : S1000000x13.Idx → EReal) = argF m c := by
  funext j
  obtain ⟨n, k, rfl⟩ : ∃ (n : Fin 1000000) (k : Fin 13), j = ix2 n k := ⟨j 0, j 1, eq_ix2 j⟩
  have h : (W4 m c main_v10 : S1000000x13.Idx → EReal) (ix2 n k) = (W3 m c main_v8_1 : S13x1000000.Idx → EReal) (ix2 k n) := by
    show StableHlo.after hostOps2 (W3 m c) main_v10 (ix2 n k) = _
    after_reads_at
  rw [h, W3_V, W2_F, W1_F]

/-- The first result at a point and a channel. -/
theorem W4_v9 (n : Fin 1000000) (r : Fin 16) : (W4 m c main_v9 : S1000000x16.Idx → EReal) (ix2 n r)
    = max (proj (inX (W1 m) c) (inF (W1 m) c) (outW3 (W1 m) c) (outWf (W1 m) c) r n + outSh (W1 m) c (ix2 r 0)) 0 := by
  have h : (W4 m c main_v9 : S1000000x16.Idx → EReal) (ix2 n r) = (W3 m c main_v8_0 : S16x1000000.Idx → EReal) (ix2 r n) := by
    show StableHlo.after hostOps2 (W3 m c) main_v9 (ix2 n r) = _
    after_reads_at
  rw [h, W3_Y]
  unfold outY
  rw [W2_X, W2_F, W2_Ws3, W2_Wsf, W2_Sh]
  rfl

end Cert.KernelIdeal.Hand
-- ==== Proof.Reference.lean ====
/-
  The reference program: its run keeps the arguments, and its computed result read at a point and a channel.
-/
module

public import proofs.«01_k».proof.Defs
public import proofs.«01_k».proof.Proof.Gen.ReferenceIdeal.Run
public import proofs.«01_k».proof.Proof.Gen.ReferenceIdeal.Read
public import proofs.«01_k».proof.Proof.Gen.Pre_finite
public import Idealize.ShloMosaic.Lib.Pointwise

@[expose] public section

set_option maxRecDepth 16384

noncomputable section

namespace Cert.ReferenceIdeal.Hand

open Cert.ReferenceIdeal Cert.ReferenceIdeal.Gen Cert.ReferenceIdeal.Read
open Idealize.ShloMosaic
open Idealize.ShloMosaic.TcCoe
open Idealize.SL.Sem

/-- The claim on the reference's run: the arguments end as launched, every counter at zero. -/
theorem frame : Cert.quiescent_ReferenceIdeal := fun m ρ _ =>
  (θ_run Cert.ReferenceIdeal.defs _ _).mono (fun r h => ⟨fun c => (h c).2.2.2.2, sem_eq_zero_of_no_sems (by decide) r.2⟩)
    (Cert.ReferenceIdeal.Value.run (F := Ideal) m ρ)

variable (X : S1000000x3.Idx → EReal) (Y : S1000000x13.Idx → EReal) (W : S16x16.Idx → EReal) (G B : S16.Idx → EReal)

/-- The projection of point `n` onto channel `r`: the coordinates' part and the features' part. -/
def refProj (r : Fin 16) (n : Fin 1000000) : EReal :=
  (∑ k : Fin 3, X (ix2 n k) * W (ix2 r ⟨k.val, by omega⟩)) + ∑ k : Fin 13, Y (ix2 n k) * W (ix2 r ⟨3 + k.val, by omega⟩)

theorem proj_apply (n : Fin 1000000) (r : Fin 16) : val_main_v2 (F := Ideal) X Y W (ix2 n r) = refProj X Y W r n := by
  rw [val_main_v2_apply]
  refine (Fin.sum_univ_add (a := 3) (b := 13) (fun k : Fin (3 + 13) =>
    (val_main_v0 (F := Ideal) X Y) (lidx_main_v2 (ix2 n r) k) * (val_main_v1 (F := Ideal) W) (ridx_main_v2 (ix2 n r) k))).trans ?_
  unfold refProj
  congr 1 <;> refine Finset.sum_congr rfl fun k _ => ?_
  · rw [show lidx_main_v2 (ix2 n r) (Fin.castAdd 13 k) = ix2 n ⟨k.val, by omega⟩ from funext fun a => by fin_cases a <;> rfl,
      show ridx_main_v2 (ix2 n r) (Fin.castAdd 13 k) = ix2 ⟨k.val, by omega⟩ r from funext fun a => by fin_cases a <;> rfl]
    pointwise [val_main_v0, val_main_v1]
  · rw [show lidx_main_v2 (ix2 n r) (Fin.natAdd 3 k) = ix2 n ⟨3 + k.val, by omega⟩ from funext fun a => by fin_cases a <;> rfl,
      show ridx_main_v2 (ix2 n r) (Fin.natAdd 3 k) = ix2 ⟨3 + k.val, by omega⟩ r from funext fun a => by fin_cases a <;> rfl]
    pointwise [val_main_v0, val_main_v1]

/-- The reference's count, the word of a million as a float. -/
abbrev count : EReal := Ideal.ofBits .f32 0x49742400#32

/-- The mean of a channel's projections. -/
def refMean (r : Fin 16) : EReal := Ideal.div (∑ n, refProj X Y W r n) count
/-- Their variance. -/
def refVar (r : Fin 16) : EReal :=
  Ideal.div (∑ n, (refProj X Y W r n - refMean X Y W r) * (refProj X Y W r n - refMean X Y W r)) count

theorem mean_apply (r : Fin 16) : val_main_v5 (F := Ideal) X Y W (ix1 r) = refMean X Y W r := by
  unfold val_main_v5 val_main_v4 val_main_v3 val_main_cst val_main_cst_0 refMean
  simp only [← proj_apply]
  generalize val_main_v2 (F := Ideal) X Y W = P
  pointwise

theorem var_apply (r : Fin 16) : val_main_v12 (F := Ideal) X Y W (ix1 r) = refVar X Y W r := by
  unfold val_main_v12 val_main_v11 val_main_v10 val_main_v9 val_main_v8 val_main_v7 val_main_v6 val_main_cst_1 val_main_cst_2 refVar
  simp only [← proj_apply, ← mean_apply]
  generalize val_main_v2 (F := Ideal) X Y W = P
  generalize val_main_v5 (F := Ideal) X Y W = M
  pointwise

/-- The reference's computed result at a point and a channel. -/
theorem out_apply (n : Fin 1000000) (r : Fin 16) : val_main_v28 (F := Ideal) X Y W G B (ix2 n r)
    = max (Ideal.div (refProj X Y W r n - refMean X Y W r) (Ideal.sqrt (refVar X Y W r + Ideal.ofBits .f32 0x3727C5AC#32)) * G (ix1 r) + B (ix1 r)) 0 := by
  unfold val_main_v28 val_main_v27 val_main_v26 val_main_v25 val_main_v24 val_main_v23 val_main_v22 val_main_v21 val_main_v20
    val_main_v19 val_main_v18 val_main_v17 val_main_v16 val_main_v15 val_main_v14 val_main_v13 val_main_call0_v0 val_main_call0_cst val_main_cst_3
  simp only [← proj_apply, ← mean_apply, ← var_apply]
  generalize val_main_v2 (F := Ideal) X Y W = P
  generalize val_main_v5 (F := Ideal) X Y W = M
  generalize val_main_v12 (F := Ideal) X Y W = Q
  pointwise

end Cert.ReferenceIdeal.Hand
-- ==== Proof.Algebra.lean ====
/-
  The arithmetic of the claim, over the extended reals: sums in blocks, and the batch norm folded into a scale and a
  shift.
-/
module

public import Idealize.ShloMosaic.PureOps.Ideal.Laws
public import Idealize.ShloMosaic.Lib.Pointwise

@[expose] public section

set_option maxRecDepth 16384

noncomputable section

namespace Cert.Algebra

open Idealize.ShloMosaic

/-! ## Words -/

/-- The word of a million as a float. -/
theorem count_word : Ideal.ofBits .f32 0x49742400#32 = ((1000000 : ℝ) : EReal) := by
  simp [Ideal.ofBits, Ideal.ieee, -EReal.coe_mul]; norm_num

/-- The word of infinity. -/
theorem inf_word : Ideal.ofBits .f32 0x7F800000#32 = ⊤ := by
  simp [Ideal.ofBits, Ideal.ieee]

/-- The word added to the variance is a positive real. -/
theorem eps_word : ∃ e : ℝ, 0 < e ∧ Ideal.ofBits .f32 0x3727C5AC#32 = (e : EReal) := by
  refine ⟨10995116 / 1099511627776, by norm_num, ?_⟩
  simp [Ideal.ofBits, Ideal.ieee, -EReal.coe_mul]; norm_num

/-! ## Sums -/

theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- Blocks of `B` taken one after another. -/
theorem sum_mul {M : Type} [AddCommMonoid M] (g : ℕ → M) (B : ℕ) (k : ℕ) :
    ∑ t ∈ Finset.range k, ∑ l ∈ Finset.range B, g (t * B + l) = ∑ n ∈ Finset.range (k * B), g n := by
  induction k with
  | zero => simp
  | succ k ih => rw [Finset.sum_range_succ, ih, Nat.add_mul, Nat.one_mul, Finset.sum_range_add]

/-- The last block reaches past the end, where nothing is added. -/
theorem sum_blocks {M : Type} [AddCommMonoid M] {N B k : ℕ} (hN : N ≤ k * B) (f : Fin N → M) :
    ∑ t ∈ Finset.range k, ∑ l : Fin B, (if h : t * B + l.val < N then f ⟨t * B + l.val, h⟩ else 0) = ∑ n, f n := by
  let g : ℕ → M := fun n => if h : n < N then f ⟨n, h⟩ else 0
  have h1 : ∀ t, ∑ l : Fin B, (if h : t * B + l.val < N then f ⟨t * B + l.val, h⟩ else 0) = ∑ l ∈ Finset.range B, g (t * B + l) :=
    fun t => (Finset.sum_range fun l => g (t * B + l)).symm
  rw [Finset.sum_congr rfl fun t _ => h1 t, sum_mul, show k * B = N + (k * B - N) by omega, Finset.sum_range_add,
    Finset.sum_eq_zero (s := Finset.range (k * B - N)) fun l _ => dif_neg (by omega), add_zero, Finset.sum_range]
  exact Finset.sum_congr rfl fun n _ => dif_pos n.isLt

/-! ## The batch norm over the reals -/

/-- The mean of the squares less the square of the mean is the mean of the squared distances. -/
theorem variance {N : ℕ} (p : Fin N → ℝ) {c : ℝ} (hc : c ≠ 0) (hN : (N : ℝ) = c) :
    (∑ n, p n * p n) * (1 / c) - (∑ n, p n) * (1 / c) * ((∑ n, p n) * (1 / c))
      = (∑ n, (p n - (∑ n, p n) * (1 / c)) * (p n - (∑ n, p n) * (1 / c))) * (1 / c) := by
  generalize hm : (∑ n, p n) * (1 / c) = μ
  have hs : ∑ n, p n = μ * c := by rw [← hm]; field_simp
  have h : ∑ n, (p n - μ) * (p n - μ) = (∑ n, p n * p n) - 2 * μ * (∑ n, p n) + c * (μ * μ) := by
    rw [Finset.sum_congr rfl fun n _ => show (p n - μ) * (p n - μ) = p n * p n - 2 * μ * p n + μ * μ by ring,
      Finset.sum_add_distrib, Finset.sum_sub_distrib, ← Finset.mul_sum]
    simp [hN]
  rw [h, hs]
  field_simp
  ring

/-- The two forms of a normalised projection: by the folded scale and shift, from the sums of the projections and of
    their squares; and by the distance to the mean, from the sum of the squared distances. -/
theorem norm {N : ℕ} (p : Fin N → ℝ) (n : Fin N) (g : ℝ) (b : EReal) {c e : ℝ} (hc : 0 < c) (hN : (N : ℝ) = c) (he : 0 < e)
    (mean var scale : EReal) (hmean : mean = Ideal.div (∑ n, (p n : EReal)) (c : EReal))
    (hvar : var = Ideal.div (∑ n, ((p n : EReal) - mean) * ((p n : EReal) - mean)) (c : EReal))
    (hscale : scale = (g : EReal) * Ideal.rsqrt (Ideal.div (∑ n, (p n : EReal) * (p n : EReal)) (c : EReal) - mean * mean + (e : EReal))) :
    (∃ s : ℝ, scale = (s : EReal) ∧ ((s * p n : ℝ) : EReal) + (b - mean * scale)
      = Ideal.div ((p n : EReal) - mean) (Ideal.sqrt (var + (e : EReal))) * (g : EReal) + b) := by
  have hm : mean = (((∑ n, p n) * (1 / c) : ℝ) : EReal) := by rw [hmean, Ideal.div_coe hc.ne', ← coe_sum, ← EReal.coe_mul]
  generalize hμ : (∑ n, p n) * (1 / c) = μ at hm
  have hv : var = (((∑ n, (p n - μ) * (p n - μ)) * (1 / c) : ℝ) : EReal) := by
    rw [hvar, hm, Ideal.div_coe hc.ne']
    simp only [← EReal.coe_sub, ← EReal.coe_mul, ← coe_sum]
  have hv' := variance p hc.ne' hN
  rw [hμ] at hv'
  generalize hw : (∑ n, (p n - μ) * (p n - μ)) * (1 / c) = v at hv hv'
  have hv0 : 0 ≤ v := by
    rw [← hw]
    exact mul_nonneg (Finset.sum_nonneg fun n _ => mul_self_nonneg _) (by positivity)
  have hpos : 0 < v + e := by linarith
  have hr : scale = ((g * (Real.sqrt (v + e))⁻¹ : ℝ) : EReal) := by
    rw [hscale, hm, Ideal.div_coe hc.ne']
    simp only [← EReal.coe_sub, ← EReal.coe_mul, ← coe_sum, ← EReal.coe_add]
    rw [hv', Ideal.rsqrt_coe, if_neg hpos.le.not_gt, if_neg hpos.ne', ← EReal.coe_mul]
  have hq : Real.sqrt (v + e) ≠ 0 := (Real.sqrt_pos.mpr hpos).ne'
  refine ⟨_, hr, ?_⟩
  rw [hr, hm, hv, ← EReal.coe_add, Ideal.sqrt_coe, if_neg hpos.le.not_gt, Ideal.div_coe hq, ← EReal.coe_sub, ← EReal.coe_mul, ← EReal.coe_mul,
    ← EReal.coe_mul, sub_eq_add_neg, ← EReal.coe_neg, add_comm b, ← add_assoc, ← EReal.coe_add]
  congr 2
  ring

/-- A scale on the weights is a scale on the projection. -/
theorem scaled {A B : ℕ} (w : Fin A → ℝ) (x : Fin A → ℝ) (v : Fin B → ℝ) (f : Fin B → ℝ) (s : ℝ) :
    (∑ k, ((w k : EReal) * (s : EReal)) * (x k : EReal)) + (∑ k, ((v k : EReal) * (s : EReal)) * (f k : EReal))
      = ((s * ((∑ k, x k * w k) + ∑ k, f k * v k) : ℝ) : EReal) := by
  simp only [← EReal.coe_mul, ← coe_sum, ← EReal.coe_add]
  congr 1
  rw [mul_add, Finset.mul_sum, Finset.mul_sum]
  congr 1 <;> exact Finset.sum_congr rfl fun k _ => by ring

/-- An extended real that compares below infinity in size is a real. -/
theorem real_of_lt (x : EReal) (h : max x (-x) < ⊤) : ∃ r : ℝ, x = (r : EReal) := by
  induction x with
  | bot => simp at h
  | top => simp at h
  | coe r => exact ⟨r, rfl⟩

end Cert.Algebra
-- ==== Proof.Algebraic.lean ====
/-
  The value claim: over the extended reals, from finite points, features, weights and scales, the kernel's results are
  the reference's.
-/
module

public import proofs.«01_k».proof.Defs
public import proofs.«01_k».proof.Proof.Algebra
public import proofs.«01_k».proof.Proof.KernelIdeal.Value
public import proofs.«01_k».proof.Proof.Reference

@[expose] public section

set_option maxRecDepth 16384

noncomputable section

namespace Cert.Algebraic

open Idealize.ShloMosaic
open Idealize.ShloMosaic.TcCoe
open Idealize.SL.Sem
open Cert.KernelIdeal (nD τ sig S1000000x3 S1000000x13 S16x16 S16 S1000000x16)
open Cert.KernelIdeal.Hand

/-! ## The precondition, as reals -/

theorem real_entries (X : S1000000x3.Idx → EReal) (Y : S1000000x13.Idx → EReal) (o : IVec Cert.KernelIdeal.S4 32) (vel : S1000000x3.Idx → EReal)
    (W : S16x16.Idx → EReal) (G B : S16.Idx → EReal)
    (h : (Cert.Pre_finite.fn (F := Ideal) X Y o vel W G B).1 = (fun _ => 1#1)
      ∧ (Cert.Pre_finite.fn (F := Ideal) X Y o vel W G B).2.1 = (fun _ => 1#1)
      ∧ (Cert.Pre_finite.fn (F := Ideal) X Y o vel W G B).2.2.1 = (fun _ => 1#1)
      ∧ (Cert.Pre_finite.fn (F := Ideal) X Y o vel W G B).2.2.2 = (fun _ => 1#1)) :
    (∀ i, ∃ r : ℝ, X i = (r : EReal)) ∧ (∀ i, ∃ r : ℝ, Y i = (r : EReal)) ∧ (∀ i, ∃ r : ℝ, W i = (r : EReal)) ∧ (∀ i, ∃ r : ℝ, G i = (r : EReal)) := by
  obtain ⟨hX, hY, hW, hG⟩ := h
  have key : ∀ x : EReal, Ideal.cmp .olt (max x (-x)) (Ideal.ofBits .f32 0x7F800000#32) = 1#1 → ∃ r : ℝ, x = (r : EReal) := by
    intro x hx
    rw [Algebra.inf_word] at hx
    refine Algebra.real_of_lt x ?_
    by_contra hn
    simp [Ideal.cmp, hn] at hx
  refine ⟨fun i => key _ ?_, fun i => key _ ?_, fun i => key _ ?_, fun i => key _ ?_⟩
  · exact congrFun hX i
  · exact congrFun hY i
  · exact congrFun hW i
  · exact congrFun hG i

/-! ## The computed result -/

section Value

variable (m : (ℓ : Loc nD τ sig) → Buf (Elt Ideal) ℓ) (c : Dev nD)

/-- The kernel's projections of the arguments are the reference's. -/
theorem proj_eq (r : Fin 16) (n : Fin 1000000) :
    proj (inX (W1 m) c) (inF (W1 m) c) (inW3 (W1 m) c) (inWf (W1 m) c) r n
      = Cert.ReferenceIdeal.Hand.refProj (argX m c) (argF m c) (argW m c) r n := by
  unfold proj Cert.ReferenceIdeal.Hand.refProj
  congr 1 <;> refine Finset.sum_congr rfl fun k _ => ?_
  · rw [W1_W3, W1_X, mul_comm]
  · rw [W1_Wf, W1_F, mul_comm]

/-- The first kernel's sums are over all points. -/
theorem sumS_eq (r : Fin 16) : accS (W1 m) c 123 (ix2 r 0)
    = ∑ n, Cert.ReferenceIdeal.Hand.refProj (argX m c) (argF m c) (argW m c) r n := by
  refine (Algebra.sum_blocks (N := 1000000) (B := 8192) (k := 123) (by norm_num)
    (fun n => proj (inX (W1 m) c) (inF (W1 m) c) (inW3 (W1 m) c) (inWf (W1 m) c) r n)).trans ?_
  exact Finset.sum_congr rfl fun n _ => proj_eq m c r n
theorem sumQ_eq (r : Fin 16) : accQ (W1 m) c 123 (ix2 r 0)
    = ∑ n, Cert.ReferenceIdeal.Hand.refProj (argX m c) (argF m c) (argW m c) r n * Cert.ReferenceIdeal.Hand.refProj (argX m c) (argF m c) (argW m c) r n := by
  refine (Algebra.sum_blocks (N := 1000000) (B := 8192) (k := 123) (by norm_num)
    (fun n => proj (inX (W1 m) c) (inF (W1 m) c) (inW3 (W1 m) c) (inWf (W1 m) c) r n * proj (inX (W1 m) c) (inF (W1 m) c) (inW3 (W1 m) c) (inWf (W1 m) c) r n)).trans ?_
  exact Finset.sum_congr rfl fun n _ => by rw [proj_eq]

/-- The mean and the scale that the first kernel finds. -/
def mean (r : Fin 16) : EReal := Cert.KernelIdeal.Gen.k0_pay18 (F := Ideal) million (accS (W1 m) c 123) (ix2 r 0)
def scale (r : Fin 16) : EReal := Cert.KernelIdeal.Gen.k0_pay19 (F := Ideal) million (accS (W1 m) c 123) (accQ (W1 m) c 123) (inG (W1 m) c) (ix2 r 0)

theorem million_real : ((BitVec.toInt million : ℝ) : EReal) = ((1000000 : ℝ) : EReal) := by
  rw [show BitVec.toInt million = 1000000 by decide]; norm_num

theorem mean_eq (r : Fin 16) : mean m c r = Cert.ReferenceIdeal.Hand.refMean (argX m c) (argF m c) (argW m c) r := by
  unfold mean Cert.ReferenceIdeal.Hand.refMean Cert.ReferenceIdeal.Hand.count
  rw [pay18_apply, sumS_eq, million_real, Algebra.count_word]

/-- A projection whose weights carry a scale. -/
theorem scaled_proj (X : Cert.KernelIdeal.S3x1000000.Idx → EReal) (F : Cert.KernelIdeal.S13x1000000.Idx → EReal)
    (w3 : Cert.KernelIdeal.S16x3.Idx → EReal) (wf : Cert.KernelIdeal.S16x13.Idx → EReal) (r : Fin 16) (n : Fin 1000000)
    (x w : Fin 3 → ℝ) (f v : Fin 13 → ℝ) (s : ℝ) (hX : ∀ k, X (ix2 k n) = (x k : EReal)) (hF : ∀ k, F (ix2 k n) = (f k : EReal))
    (h3 : ∀ k, w3 (ix2 r k) = (w k : EReal) * (s : EReal)) (hf : ∀ k, wf (ix2 r k) = (v k : EReal) * (s : EReal)) :
    proj X F w3 wf r n = ((s * ((∑ k, x k * w k) + ∑ k, f k * v k) : ℝ) : EReal) := by
  rw [← Algebra.scaled]
  unfold proj
  simp only [hX, hF, h3, hf]

/-- The kernel's computed result is the reference's. -/
theorem out_eq (hX : ∀ i, ∃ r : ℝ, argX m c i = (r : EReal)) (hF : ∀ i, ∃ r : ℝ, argF m c i = (r : EReal))
    (hW : ∀ i, ∃ r : ℝ, argW m c i = (r : EReal)) (hG : ∀ i, ∃ r : ℝ, argG m c i = (r : EReal)) :
    (W4 m c Cert.KernelIdeal.main_v9 : S1000000x16.Idx → EReal)
      = Cert.ReferenceIdeal.Read.val_main_v28 (F := Ideal) (argX m c) (argF m c) (argW m c) (argG m c) (argB m c) := by
  funext j
  obtain ⟨n, r, rfl⟩ : ∃ (n : Fin 1000000) (r : Fin 16), j = ix2 n r := ⟨j 0, j 1, eq_ix2 j⟩
  rw [W4_v9, Cert.ReferenceIdeal.Hand.out_apply]
  congr 1
  choose x hx using hX
  choose f hf using hF
  choose w hw using hW
  choose g hg using hG
  obtain ⟨e, he, hew⟩ := Algebra.eps_word
  obtain ⟨p, hp0⟩ : ∃ p : Fin 1000000 → ℝ, ∀ n, p n = (∑ k : Fin 3, x (ix2 n k) * w (ix2 r ⟨k.val, by omega⟩))
    + ∑ k : Fin 13, f (ix2 n k) * w (ix2 r ⟨3 + k.val, by omega⟩) := ⟨_, fun _ => rfl⟩
  have hp : ∀ n, Cert.ReferenceIdeal.Hand.refProj (argX m c) (argF m c) (argW m c) r n = (p n : EReal) := by
    intro n
    unfold Cert.ReferenceIdeal.Hand.refProj
    simp only [hx, hf, hw, ← EReal.coe_mul, ← Algebra.coe_sum, ← EReal.coe_add]
    rw [hp0]
  obtain ⟨s, hs, hn⟩ := Algebra.norm p n (g (ix1 r)) (argB m c (ix1 r)) (c := 1000000) (e := e) (by norm_num) (by norm_num) he
    (mean m c r) (Cert.ReferenceIdeal.Hand.refVar (argX m c) (argF m c) (argW m c) r) (scale m c r)
    (by rw [mean_eq]; unfold Cert.ReferenceIdeal.Hand.refMean Cert.ReferenceIdeal.Hand.count
        rw [Algebra.count_word]; simp only [hp])
    (by unfold Cert.ReferenceIdeal.Hand.refVar Cert.ReferenceIdeal.Hand.count
        rw [Algebra.count_word, mean_eq]; simp only [hp])
    (by unfold scale
        rw [pay19_apply, W1_G, hg, sumQ_eq, million_real, hew]
        simp only [hp]
        rfl)
  rw [hp, ← mean_eq, hew, hg, ← hn]
  congr 1
  · rw [hp0]
    exact scaled_proj _ _ _ _ r n _ _ _ _ s (fun k => by rw [W1_X, hx]) (fun k => by rw [W1_F, hf])
      (fun k => (pay20_apply ..).trans (by rw [W1_W3, hw, ← hs]; rfl)) (fun k => (pay8_apply ..).trans (by rw [W1_Wf, hw, ← hs]; rfl))
  · unfold outSh
    rw [pay9_apply, W1_B]; rfl

end Value

end Cert.Algebraic
-- ==== Proof.lean ====
/-
  The certificate's claims, put together.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Kernel.Run
public import proofs.«01_k».proof.Proof.KernelIdeal.Value
public import proofs.«01_k».proof.Proof.Reference
public import proofs.«01_k».proof.Proof.Algebraic
public import proofs.«01_k».proof.Proof.Gen.Pre_finite

@[expose] public section

noncomputable section

namespace Cert.Proof

open Idealize.ShloMosaic Idealize.SL.Sem

/-- The kernel's frame. -/
theorem frame_p : Cert.quiescent_Kernel := fun m ρ _ => Cert.Kernel.Hand.frame m ρ

/-- The idealized kernel's frame. -/
theorem frame_pi : Cert.quiescent_KernelIdeal := fun m ρ _ =>
  (θ_run Cert.KernelIdeal.defs _ _).mono (fun r h => ⟨fun c => (h.1 c).2, h.2⟩) (Cert.KernelIdeal.Hand.run_args m ρ)

/-- The value claim: the four results of the two programs are the same. -/
theorem algebraic : Cert.algebraic_KernelIdeal_ReferenceIdeal_pre_finite := by
  intro m ρ m' ρ' hpre hargs
  refine ⟨fun c => m ((c.tc : Thread Cert.KernelIdeal.nD Cert.KernelIdeal.τ).loc Cert.KernelIdeal.main_arg0),
    fun c => Cert.KernelIdeal.Hand.W4 m c (Proc.devRef .tc Cert.KernelIdeal.main_v9),
    fun c => m ((c.tc : Thread Cert.KernelIdeal.nD Cert.KernelIdeal.τ).loc Cert.KernelIdeal.main_arg2),
    fun c => m ((c.tc : Thread Cert.KernelIdeal.nD Cert.KernelIdeal.τ).loc Cert.KernelIdeal.main_arg1), ?_, ?_⟩
  · refine (θ_run Cert.KernelIdeal.defs _ _).mono (fun r h c => ?_) (Cert.KernelIdeal.Hand.run_args m ρ)
    obtain ⟨⟨h9, h10⟩, h0, h1, h2, h3, h4, h5, h6⟩ := h.1 c
    exact ⟨h0, h9, h2, h10.trans (Cert.KernelIdeal.Hand.W4_v10 m c), h0, h1, h2, h3, h4, h5, h6⟩
  · refine (θ_run Cert.ReferenceIdeal.defs _ _).mono (fun r h c => ?_) (Cert.ReferenceIdeal.Value.run (F := Ideal) m' ρ')
    obtain ⟨h0, hv, h2, h1, hrest⟩ := h c
    obtain ⟨e0, e1, e2, e3, e4, e5, e6⟩ := hargs c
    obtain ⟨hX, hF, hW, hG⟩ := Cert.Algebraic.real_entries _ _ _ _ _ _ _ (hpre c)
    refine ⟨h0.trans e0, ?_, h2.trans e2, h1.trans e1, hrest⟩
    refine hv.trans ((Cert.ReferenceIdeal.Read.val_main_v28_eq (F := Ideal) _ _ _ _ _).trans ?_)
    rw [e0, e1, e4, e5, e6]
    exact (Cert.Algebraic.out_eq m c hX hF hW hG).symm

theorem claim : Cert.Claim :=
  ⟨Cert.Kernel.Gen.facts, Cert.KernelIdeal.Gen.facts, Cert.ReferenceIdeal.Gen.facts, Cert.Pre_finite.Gen.facts,
    frame_p, frame_pi, fun m ρ _ => frame_pi m ρ trivial, Cert.ReferenceIdeal.Hand.frame,
    fun m ρ _ => Cert.ReferenceIdeal.Hand.frame m ρ trivial, trivial, algebraic⟩

end Cert.Proof

end
